-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_chebyshev [hPre_chebyshev : Cert.Pre_chebyshev.Facts] (m : (ℓ : Loc Cert.KernelIdeal.nD Cert.KernelIdeal.τ Cert.KernelIdeal.sig) → Buf (Elt Ideal) ℓ) : Prop :=
  ∀ c : Dev Cert.KernelIdeal.nD,
    (Cert.Pre_chebyshev.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_chebyshev [hPre_chebyshev : Cert.Pre_chebyshev.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_chebyshev.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_chebyshev [hKernelIdeal : Cert.KernelIdeal.Facts] [hPre_chebyshev : Cert.Pre_chebyshev.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_chebyshev m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_chebyshev [hReferenceIdeal : Cert.ReferenceIdeal.Facts] [hPre_chebyshev : Cert.Pre_chebyshev.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_chebyshev m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_chebyshev [hKernelIdeal : Cert.KernelIdeal.Facts] [hReferenceIdeal : Cert.ReferenceIdeal.Facts] [hPre_chebyshev : Cert.Pre_chebyshev.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_chebyshev m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_chebyshev : Cert.Pre_chebyshev.Facts),
    quiescent_Kernel (hKernel := hKernel)
    ∧ quiescent_KernelIdeal (hKernelIdeal := hKernelIdeal)
    ∧ quiescent_KernelIdeal_pre_chebyshev (hKernelIdeal := hKernelIdeal) (hPre_chebyshev := hPre_chebyshev)
    ∧ quiescent_ReferenceIdeal (hReferenceIdeal := hReferenceIdeal)
    ∧ quiescent_ReferenceIdeal_pre_chebyshev (hReferenceIdeal := hReferenceIdeal) (hPre_chebyshev := hPre_chebyshev)
    ∧ preserves_Kernel_KernelIdeal
    ∧ algebraic_KernelIdeal_ReferenceIdeal_pre_chebyshev (hKernelIdeal := hKernelIdeal) (hReferenceIdeal := hReferenceIdeal) (hPre_chebyshev := hPre_chebyshev)
-- ==== Pre_chebyshev.lean ====
abbrev S4096x128 : Shape := ⟨2, ![4096, 128]⟩
abbrev S4x4096x4096 : Shape := ⟨3, ![4, 4096, 4096]⟩
abbrev S4x128x4096 : Shape := ⟨3, ![4, 128, 4096]⟩
abbrev S4096 : Shape := ⟨1, ![4096]⟩
abbrev S4096x4096 : Shape := ⟨2, ![4096, 4096]⟩
abbrev S_ : Shape := ⟨0, ![]⟩
abbrev S1x4096x4096 : Shape := ⟨3, ![1, 4096, 4096]⟩

class Facts : Prop where
  bcast_S_S4096x4096 : S_.BroadcastsInDim S4096x4096 (![] : Fin 0 → Fin S4096x4096.rank)
  slices_S4x4096x4096_S1x4096x4096_0_0_0 : S4x4096x4096.Slices ![0, 0, 0] S1x4096x4096
  shapeCasts_S1x4096x4096_S4096x4096 : S1x4096x4096.ShapeCasts S4096x4096
  slices_S4x4096x4096_S1x4096x4096_1_0_0 : S4x4096x4096.Slices ![1, 0, 0] S1x4096x4096
  slices_S4x4096x4096_S1x4096x4096_2_0_0 : S4x4096x4096.Slices ![2, 0, 0] S1x4096x4096
  slices_S4x4096x4096_S1x4096x4096_3_0_0 : S4x4096x4096.Slices ![3, 0, 0] S1x4096x4096
  bcast_S_S4096x128 : S_.BroadcastsInDim S4096x128 (![] : Fin 0 → Fin S4096x128.rank)
  reducesTo_S4096x128_S_d0_1 : S4096x128.ReducesTo [0, 1] S_
  h_S_ : 0 < S_.numel
  reducesTo_S4096x4096_S_d0_1 : S4096x4096.ReducesTo [0, 1] S_
  bcast_S_S4x128x4096 : S_.BroadcastsInDim S4x128x4096 (![] : Fin 0 → Fin S4x128x4096.rank)
  reducesTo_S4x128x4096_S_d0_1_2 : S4x128x4096.ReducesTo [0, 1, 2] S_
  transposes_S4096x4096_S4096x4096_1_0 : S4096x4096.Transposes [1, 0] S4096x4096
  dot_S4096x4096_S4096x4096_S4096x4096_1_0_0_1_n_n_wf : DotDims.WF S4096x4096 S4096x4096 S4096x4096 [1] [0] [0] [1] [] []

variable [Facts]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def fn_where {F : FTy → Type} [FloatOps F] (arg0 : IVec S4096x4096 1) (arg1 : FVec F S_ .f32) (arg2 : FVec F S_ .f32) : FVec F S4096x4096 .f32 :=
  let v0 : FVec F S4096x4096 .f32 := broadcastInDim S4096x4096 ![] bcast_S_S4096x4096 arg1
  let v1 : FVec F S4096x4096 .f32 := broadcastInDim S4096x4096 ![] bcast_S_S4096x4096 arg2
  let v2 : FVec F S4096x4096 .f32 := select arg0 v0 v1
  v2

def fn_part2 {F : FTy → Type} [FloatOps F] (main_v3 : FVec F S4096x4096 .f32) (main_v5 : FVec F S4096x4096 .f32) (main_v9 : FVec F S4096x4096 .f32) (main_v11 : FVec F S4096x4096 .f32) (main_v16 : FVec F S4096x4096 .f32) (main_v20 : FVec F S4096x4096 .f32) (main_v34 : IVec S_ 1) (main_v36 : IVec S4096x4096 1) (main_c_8 : IVec S_ 1) : IVec S_ 1 :=
  let main_v37 : IVec S_ 1 := (fun x v => Host.reduce IntOp.andi x v reducesTo_S4096x4096_S_d0_1 h_S_) main_v36 main_c_8
  let main_v38 : IVec S_ 1 := andi main_v34 main_v37
  let main_v39 : FVec F S4096x4096 .f32 := id main_v3
  let main_v40 : IVec S4096x4096 1 := cmpf .oeq main_v5 main_v39
  let main_c_9 : IVec S_ 1 := constantI S_ 1 1#1
  let main_v41 : IVec S_ 1 := (fun x v => Host.reduce IntOp.andi x v reducesTo_S4096x4096_S_d0_1 h_S_) main_v40 main_c_9
  let main_v42 : IVec S_ 1 := andi main_v38 main_v41
  let main_v43 : IVec S4096x4096 1 := cmpf .oeq main_v9 main_v16
  let main_c_10 : IVec S_ 1 := constantI S_ 1 1#1
  let main_v44 : IVec S_ 1 := (fun x v => Host.reduce IntOp.andi x v reducesTo_S4096x4096_S_d0_1 h_S_) main_v43 main_c_10
  let main_v45 : IVec S_ 1 := andi main_v42 main_v44
  let main_v46 : IVec S4096x4096 1 := cmpf .oeq main_v11 main_v20
  let main_c_11 : IVec S_ 1 := constantI S_ 1 1#1
  let main_v47 : IVec S_ 1 := (fun x v => Host.reduce IntOp.andi x v reducesTo_S4096x4096_S_d0_1 h_S_) main_v46 main_c_11
  let main_v48 : IVec S_ 1 := andi main_v45 main_v47
  main_v48

def fn_part1 {F : FTy → Type} [FloatOps F] (main_arg0 : FVec F S4096x128 .f32) (main_arg2 : FVec F S4x128x4096 .f32) (main_v3 : FVec F S4096x4096 .f32) (main_v5 : FVec F S4096x4096 .f32) (main_v7 : FVec F S4096x4096 .f32) (main_v9 : FVec F S4096x4096 .f32) (main_v11 : FVec F S4096x4096 .f32) (main_v16 : FVec F S4096x4096 .f32) (main_v19 : FVec F S4096x4096 .f32) : IVec S_ 1 :=
  let main_v20 : FVec F S4096x4096 .f32 := subf main_v19 main_v7
  let main_v21 : FVec F S4096x128 .f32 := Host.absf main_arg0
  let main_cst_3 : FVec F S_ .f32 := constant S_ .f32 0x7F800000#32
  let main_v22 : FVec F S4096x128 .f32 := broadcastInDim S4096x128 ![] bcast_S_S4096x128 main_cst_3
  let main_v23 : IVec S4096x128 1 := cmpf .olt main_v21 main_v22
  let main_c : IVec S_ 1 := constantI S_ 1 1#1
  let main_v24 : IVec S_ 1 := (fun x v => Host.reduce IntOp.andi x v reducesTo_S4096x128_S_d0_1 h_S_) main_v23 main_c
  let main_v25 : FVec F S4096x4096 .f32 := Host.absf main_v7
  let main_cst_4 : FVec F S_ .f32 := constant S_ .f32 0x7F800000#32
  let main_v26 : FVec F S4096x4096 .f32 := broadcastInDim S4096x4096 ![] bcast_S_S4096x4096 main_cst_4
  let main_v27 : IVec S4096x4096 1 := cmpf .olt main_v25 main_v26
  let main_c_5 : IVec S_ 1 := constantI S_ 1 1#1
  let main_v28 : IVec S_ 1 := (fun x v => Host.reduce IntOp.andi x v reducesTo_S4096x4096_S_d0_1 h_S_) main_v27 main_c_5
  let main_v29 : IVec S_ 1 := andi main_v24 main_v28
  let main_v30 : FVec F S4x128x4096 .f32 := Host.absf main_arg2
  let main_cst_6 : FVec F S_ .f32 := constant S_ .f32 0x7F800000#32
  let main_v31 : FVec F S4x128x4096 .f32 := broadcastInDim S4x128x4096 ![] bcast_S_S4x128x4096 main_cst_6
  let main_v32 : IVec S4x128x4096 1 := cmpf .olt main_v30 main_v31
  let main_c_7 : IVec S_ 1 := constantI S_ 1 1#1
  let main_v33 : IVec S_ 1 := (fun x v => Host.reduce IntOp.andi x v reducesTo_S4x128x4096_S_d0_1_2 h_S_) main_v32 main_c_7
  let main_v34 : IVec S_ 1 := andi main_v29 main_v33
  let main_v35 : FVec F S4096x4096 .f32 := (transpose S4096x4096 [1, 0] · transposes_S4096x4096_S4096x4096_1_0) main_v7
  let main_v36 : IVec S4096x4096 1 := cmpf .oeq main_v7 main_v35
  let main_c_8 : IVec S_ 1 := constantI S_ 1 1#1
  fn_part2 (F := F) main_v3 main_v5 main_v9 main_v11 main_v16 main_v20 main_v34 main_v36 main_c_8

def fn {F : FTy → Type} [FloatOps F] (main_arg0 : FVec F S4096x128 .f32) (main_arg1 : FVec F S4x4096x4096 .f32) (main_arg2 : FVec F S4x128x4096 .f32) (main_arg3 : FVec F S4096 .f32) : IVec S_ 1 :=
  let main_v0 : IVec S4096x4096 32 := iotaInDim S4096x4096 32 0
  let main_v1 : IVec S4096x4096 32 := iotaInDim S4096x4096 32 1
  let main_v2 : IVec S4096x4096 1 := cmpi .eq main_v0 main_v1
  let main_cst : FVec F S_ .f32 := constant S_ .f32 0x3F800000#32
  let main_cst_0 : FVec F S_ .f32 := constant S_ .f32 0x00000000#32
  let main_v3 : FVec F S4096x4096 .f32 := fn_where (F := F) main_v2 main_cst main_cst_0
  let main_v4 : FVec F S1x4096x4096 .f32 := (extractStridedSlice S1x4096x4096 ![0, 0, 0] · slices_S4x4096x4096_S1x4096x4096_0_0_0) main_arg1
  let main_v5 : FVec F S4096x4096 .f32 := shapeCast S4096x4096 main_v4 shapeCasts_S1x4096x4096_S4096x4096
  let main_v6 : FVec F S1x4096x4096 .f32 := (extractStridedSlice S1x4096x4096 ![1, 0, 0] · slices_S4x4096x4096_S1x4096x4096_1_0_0) main_arg1
  let main_v7 : FVec F S4096x4096 .f32 := shapeCast S4096x4096 main_v6 shapeCasts_S1x4096x4096_S4096x4096
  let main_v8 : FVec F S1x4096x4096 .f32 := (extractStridedSlice S1x4096x4096 ![2, 0, 0] · slices_S4x4096x4096_S1x4096x4096_2_0_0) main_arg1
  let main_v9 : FVec F S4096x4096 .f32 := shapeCast S4096x4096 main_v8 shapeCasts_S1x4096x4096_S4096x4096
  let main_v10 : FVec F S1x4096x4096 .f32 := (extractStridedSlice S1x4096x4096 ![3, 0, 0] · slices_S4x4096x4096_S1x4096x4096_3_0_0) main_arg1
  let main_v11 : FVec F S4096x4096 .f32 := shapeCast S4096x4096 main_v10 shapeCasts_S1x4096x4096_S4096x4096
  let main_v12 : FVec F S4096x4096 .f32 := (fun l r => Host.dotGeneral dot_S4096x4096_S4096x4096_S4096x4096_1_0_0_1_n_n none l r) main_v7 main_v7
  let main_cst_1 : FVec F S_ .f32 := constant S_ .f32 0x40000000#32
  let main_v13 : FVec F S4096x4096 .f32 := broadcastInDim S4096x4096 ![] bcast_S_S4096x4096 main_cst_1
  let main_v14 : FVec F S4096x4096 .f32 := mulf main_v13 main_v12
  let main_v15 : FVec F S4096x4096 .f32 := id main_v3
  let main_v16 : FVec F S4096x4096 .f32 := subf main_v14 main_v15
  let main_v17 : FVec F S4096x4096 .f32 := (fun l r => Host.dotGeneral dot_S4096x4096_S4096x4096_S4096x4096_1_0_0_1_n_n none l r) main_v7 main_v9
  let main_cst_2 : FVec F S_ .f32 := constant S_ .f32 0x40000000#32
  let main_v18 : FVec F S4096x4096 .f32 := broadcastInDim S4096x4096 ![] bcast_S_S4096x4096 main_cst_2
  let main_v19 : FVec F S4096x4096 .f32 := mulf main_v18 main_v17
  fn_part1 (F := F) main_arg0 main_arg2 main_v3 main_v5 main_v7 main_v9 main_v11 main_v16 main_v19
-- ==== Kernel.lean ====
abbrev S4096x128 : Shape := ⟨2, ![4096, 128]⟩
abbrev S4x4096x4096 : Shape := ⟨3, ![4, 4096, 4096]⟩
abbrev S4x128x4096 : Shape := ⟨3, ![4, 128, 4096]⟩
abbrev S4096 : Shape := ⟨1, ![4096]⟩
abbrev S16384x4096 : Shape := ⟨2, ![16384, 4096]⟩
abbrev S1x4096 : Shape := ⟨2, ![1, 4096]⟩
abbrev S4096x4096 : Shape := ⟨2, ![4096, 4096]⟩
abbrev S4x128x256 : Shape := ⟨3, ![4, 128, 256]⟩
abbrev S256x4096 : Shape := ⟨2, ![256, 4096]⟩
abbrev S1x512 : Shape := ⟨2, ![1, 512]⟩
abbrev S4096x512 : Shape := ⟨2, ![4096, 512]⟩
abbrev S1x128x256 : Shape := ⟨3, ![1, 128, 256]⟩
abbrev S128x256 : Shape := ⟨2, ![128, 256]⟩
abbrev S256x256 : Shape := ⟨2, ![256, 256]⟩
abbrev S128x4096 : Shape := ⟨2, ![128, 4096]⟩
abbrev S128x512 : Shape := ⟨2, ![128, 512]⟩

abbrev nBuf : Space → Nat
  | .hbm => 8
  | .vmem => 11
  | .smem => 0
  | _ => 0

abbrev bufTy : (tb : Table) → Fin (tcTables nBuf tb) → BufTy
  | .hbm, ⟨0, _⟩ => ⟨S4096x128, .f32⟩
  | .hbm, ⟨1, _⟩ => ⟨S4x4096x4096, .f32⟩
  | .hbm, ⟨2, _⟩ => ⟨S4x128x4096, .f32⟩
  | .hbm, ⟨3, _⟩ => ⟨S4096, .f32⟩
  | .hbm, ⟨4, _⟩ => ⟨S16384x4096, .f32⟩
  | .hbm, ⟨5, _⟩ => ⟨S1x4096, .f32⟩
  | .hbm, ⟨6, _⟩ => ⟨S4096x128, .bf16⟩
  | .hbm, ⟨7, _⟩ => ⟨S4096x4096, .f32⟩
  | .local _ .vmem, ⟨0, _⟩ => ⟨S4x128x256, .f32⟩
  | .local _ .vmem, ⟨1, _⟩ => ⟨S4x128x256, .f32⟩
  | .local _ .vmem, ⟨2, _⟩ => ⟨S256x4096, .f32⟩
  | .local _ .vmem, ⟨3, _⟩ => ⟨S256x4096, .f32⟩
  | .local _ .vmem, ⟨4, _⟩ => ⟨S4096x128, .bf16⟩
  | .local _ .vmem, ⟨5, _⟩ => ⟨S1x512, .f32⟩
  | .local _ .vmem, ⟨6, _⟩ => ⟨S1x512, .f32⟩
  | .local _ .vmem, ⟨7, _⟩ => ⟨S4096x512, .f32⟩
  | .local _ .vmem, ⟨8, _⟩ => ⟨S4096x512, .f32⟩
  | .local _ .vmem, ⟨9, _⟩ => ⟨S256x4096, .f32⟩
  | .local _ .vmem, ⟨10, _⟩ => ⟨S4096x4096, .bf16⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c16_i32 : BitVec 32 := 16#32
  let v3 : BitVec 1 := Scalar.cmpi .slt arg0 c16_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let c0_15 : Index := 0#32
  let arg0 : BitVec 32 := BitVec.ofNat 32 (i 0).val
  let c256_i32 : BitVec 32 := 256#32
  let v12 : BitVec 32 := Scalar.muli arg0 c256_i32
  let v27 : Index := Scalar.indexCast v12
  ![0, v27.toNat]
def k0_off2 (i : grid0.Coords) : Fin 2 → Nat :=
  let c128 : Index := 128#32
  let arg0 : BitVec 32 := BitVec.ofNat 32 (i 0).val
  let c256_i32 : BitVec 32 := 256#32
  let v12 : BitVec 32 := Scalar.muli arg0 c256_i32
  let v36 : Index := Scalar.indexCast v12
  ![128, v36.toNat]
def k0_off3 (i : grid0.Coords) : Fin 2 → Nat :=
  let arg0 : BitVec 32 := BitVec.ofNat 32 (i 0).val
  let c256_i32 : BitVec 32 := 256#32
  let v12 : BitVec 32 := Scalar.muli arg0 c256_i32
  let v50 : Index := Scalar.indexCast v12
  let c0_26 : Index := 0#32
  ![v50.toNat, 0]
def k0_cond4 (i : grid0.Coords) : BitVec 1 :=
  let arg0 : BitVec 32 := BitVec.ofNat 32 (i 0).val
  let c16_i32_4 : BitVec 32 := 16#32
  let v9 : BitVec 1 := Scalar.cmpi .sgt arg0 c16_i32_4
  let v10 : BitVec 32 := Scalar.extui v9
  let c0_i32_5 : BitVec 32 := 0#32
  let v11 : BitVec 1 := Scalar.cmpi .ne v10 c0_i32_5
  v11

def k0_off4 (i : grid0.Coords) : Fin 2 → Nat :=
  let c0_7 : Index := 0#32
  let arg0 : BitVec 32 := BitVec.ofNat 32 (i 0).val
  let c16_i32_6 : BitVec 32 := 16#32
  let v12 : BitVec 32 := Scalar.subi arg0 c16_i32_6
  let c1_i32 : BitVec 32 := 1#32
  let v13 : BitVec 32 := Scalar.subi v12 c1_i32
  let c512_i32 : BitVec 32 := 512#32
  let v16 : BitVec 32 := Scalar.muli v13 c512_i32
  let v17 : Index := Scalar.indexCast v16
  ![0, v17.toNat]
def k0_off5 (i : grid0.Coords) : Fin 2 → Nat :=
  let c0_9 : Index := 0#32
  let arg0 : BitVec 32 := BitVec.ofNat 32 (i 0).val
  let c16_i32_6 : BitVec 32 := 16#32
  let v12 : BitVec 32 := Scalar.subi arg0 c16_i32_6
  let c1_i32 : BitVec 32 := 1#32
  let v13 : BitVec 32 := Scalar.subi v12 c1_i32
  let c512_i32_8 : BitVec 32 := 512#32
  let v20 : BitVec 32 := Scalar.muli v13 c512_i32_8
  let v21 : Index := Scalar.indexCast v20
  ![0, v21.toNat]
def cc0_transform_0 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![c0_i32.toNat, c0_i32_0.toNat, v0.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c16_i32 : BitVec 32 := 16#32
  let v1 : BitVec 32 := Scalar.addi c16_i32 v0
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c16_i32 : BitVec 32 := 16#32
  let v0 : BitVec 32 := Scalar.subi arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c16_i32 : BitVec 32 := 16#32
  let v0 : BitVec 32 := Scalar.subi arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat]

abbrev stage0_0 : Fin 2 → Memref sig .tc .vmem S4x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4096x128 : Shape := ⟨2, ![4096, 128]⟩
abbrev S4x4096x4096 : Shape := ⟨3, ![4, 4096, 4096]⟩
abbrev S4x128x4096 : Shape := ⟨3, ![4, 128, 4096]⟩
abbrev S4096 : Shape := ⟨1, ![4096]⟩
abbrev S_ : Shape := ⟨0, ![]⟩
abbrev S4096x4096 : Shape := ⟨2, ![4096, 4096]⟩
abbrev S1x4096 : Shape := ⟨2, ![1, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4x4096x4096, .f32⟩
  | .hbm, ⟨2, _⟩ => ⟨S4x128x4096, .f32⟩
  | .hbm, ⟨3, _⟩ => ⟨S4096, .f32⟩
  | .hbm, ⟨4, _⟩ => ⟨S4x4096x4096, .f32⟩
  | .hbm, ⟨5, _⟩ => ⟨S4x4096x4096, .f32⟩
  | .hbm, ⟨6, _⟩ => ⟨S4x4096x4096, .f32⟩
  | .hbm, ⟨7, _⟩ => ⟨S4x4096x4096, .f32⟩
  | .hbm, ⟨8, _⟩ => ⟨S_, .f32⟩
  | .hbm, ⟨9, _⟩ => ⟨S4096x4096, .f32⟩
  | .hbm, ⟨10, _⟩ => ⟨S1x4096, .f32⟩
  | .hbm, ⟨11, _⟩ => ⟨S4096x4096, .f32⟩
  | .hbm, ⟨12, _⟩ => ⟨S4096x4096, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Proof.RunKernelIdeal.lean ====
/- The kernel body run once for each case of its four conditionals (first point, accumulating point, the combining
   point, an output point): what it stores into the two scratch buffers and into the output block. -/
module

public import proofs.«01_k».proof.Proof.Gen.KernelIdeal.Frame
public import proofs.«01_k».proof.Proof.Gen.KernelIdeal.Points
public import proofs.«01_k».proof.Proof.Gen.KernelIdeal.Skeleton
public import Idealize.ShloMosaic.Lib.Claim

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional: the grid coordinate is 0. -/
abbrev isFirst (i : grid0.Coords) : Prop := (Scalar.cmpi .ne (Scalar.extui (Scalar.cmpi .eq (BitVec.ofNat 32 (i 0).val) 0#32)) 0#32) = 1#1
/-- The second: it is below 16. -/
abbrev isAcc (i : grid0.Coords) : Prop := k0_cond2 i = 1#1
/-- The third: it is 16. -/
abbrev isMid (i : grid0.Coords) : Prop := (Scalar.cmpi .ne (Scalar.extui (Scalar.cmpi .eq (BitVec.ofNat 32 (i 0).val) 16#32)) 0#32) = 1#1
/-- The fourth: it is above 16. -/
abbrev isOut (i : grid0.Coords) : Prop := k0_cond4 i = 1#1

/-- The grid coordinate of a point is the point. -/
theorem coord_val (t : Fin cfg0.N) : (grid0.coords t 0).val = t.val := by
  have ht : t.val < 25 := Nat.lt_of_lt_of_eq t.isLt N_0
  have e0 : (grid0.coords t 0).val = t.val / 1 % 25 := Pipeline.Grid.coords_val t 0 (by decide) rfl
  rw [e0]; omega

theorem isFirst_iff (t : Fin cfg0.N) : isFirst (grid0.coords t) ↔ t.val = 0 := by
  have ht : t.val < 25 := Nat.lt_of_lt_of_eq t.isLt N_0
  simp only [isFirst, coord_val]
  word_cmp
theorem isAcc_iff (t : Fin cfg0.N) : isAcc (grid0.coords t) ↔ t.val < 16 := by
  have ht : t.val < 25 := Nat.lt_of_lt_of_eq t.isLt N_0
  simp only [isAcc, k0_cond2, coord_val]
  word_cmp
theorem isMid_iff (t : Fin cfg0.N) : isMid (grid0.coords t) ↔ t.val = 16 := by
  have ht : t.val < 25 := Nat.lt_of_lt_of_eq t.isLt N_0
  simp only [isMid, coord_val]
  word_cmp
theorem isOut_iff (t : Fin cfg0.N) : isOut (grid0.coords t) ↔ 16 < t.val := by
  have ht : t.val < 25 := Nat.lt_of_lt_of_eq t.isLt N_0
  simp only [isOut, k0_cond4, coord_val]
  word_cmp

set_option maxHeartbeats 4000000 in
/-- The body at the first point: the accumulator is zeroed, then the first block is accumulated. -/
noncomputable def runFirst (c : Dev nD) (i : grid0.Coords) (arg1 : Memref sig .tc .vmem S4x128x256 .f32) (harg1 : arg1.IsWhole) (arg2 : Memref sig .tc .vmem S256x4096 .f32) (harg2 : arg2.IsWhole) (arg3 : Memref sig .tc .vmem S4096x128 .bf16) (harg3 : arg3.IsWhole) (arg4 : Memref sig .tc .vmem S1x512 .f32) (harg4 : arg4.IsWhole) (arg5 : Memref sig .tc .vmem S4096x512 .f32) (harg5 : arg5.IsWhole) (arg6 : Memref sig .tc .vmem S256x4096 .f32) (harg6 : arg6.IsWhole) (arg7 : Memref sig .tc .vmem S4096x4096 .bf16) (harg7 : arg7.IsWhole) (hc0 : isFirst i) (hc1 : isAcc i) (hc2 : ¬isMid i) (hc3 : ¬isOut i)
    (x1 : Vec F S4x128x256 .f32) (x2 : Vec F S256x4096 .f32) (x3 : Vec F S4096x128 .bf16) (x4 : Vec F S1x512 .f32) (x6 : Vec F S256x4096 .f32) (x7 : Vec F S4096x4096 .bf16) :
    Σ' (LA : List (View.Piece (Elt F) S256x4096 .f32)), { LT : List (View.Piece (Elt F) S4096x4096 .bf16) //
      ∀ (x5 : Vec F S4096x512 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f LA) ∗ (arg7.view.loc (c : Thread nD τ) ↦[arg7.view.set]{fullShare} arg7.view.writes (Elt F) (harg7.unread x7) LT)) -∗ K ⟨⟩))
          ⊢ wp frame (wpE (defs₀ (F := F)) Variants.none c none) E (cc0__gcn_body i arg1 harg1 arg2 harg2 arg3 harg3 arg4 harg4 arg5 harg5 arg6 harg6 arg7 harg7) K } := by
  refine ⟨?_, ?_, fun x5 E K => ?run⟩
  case run =>
    simp only [cc0__gcn_body_eq_skeleton]; unfold cc0__gcn_body_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg1.eq_unread hf1; obtain rfl := harg2.eq_unread hf2; obtain rfl := harg3.eq_unread hf3; obtain rfl := harg4.eq_unread hf4
    obtain rfl := harg6.eq_unread hf6; obtain rfl := harg7.eq_unread hf7
    sl_exec (disch := first | sl_exact hc0 | sl_exact hc1 | sl_exact hc2 | sl_exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact hf5
      iexact H5
    isplitl [H6]
    · iexists _; iexact H6
    iexact H7

set_option maxHeartbeats 4000000 in
/-- The body at a later accumulating point. -/
noncomputable def runAcc (c : Dev nD) (i : grid0.Coords) (arg1 : Memref sig .tc .vmem S4x128x256 .f32) (harg1 : arg1.IsWhole) (arg2 : Memref sig .tc .vmem S256x4096 .f32) (harg2 : arg2.IsWhole) (arg3 : Memref sig .tc .vmem S4096x128 .bf16) (harg3 : arg3.IsWhole) (arg4 : Memref sig .tc .vmem S1x512 .f32) (harg4 : arg4.IsWhole) (arg5 : Memref sig .tc .vmem S4096x512 .f32) (harg5 : arg5.IsWhole) (arg6 : Memref sig .tc .vmem S256x4096 .f32) (harg6 : arg6.IsWhole) (arg7 : Memref sig .tc .vmem S4096x4096 .bf16) (harg7 : arg7.IsWhole) (hc0 : ¬isFirst i) (hc1 : isAcc i) (hc2 : ¬isMid i) (hc3 : ¬isOut i)
    (x1 : Vec F S4x128x256 .f32) (x2 : Vec F S256x4096 .f32) (x3 : Vec F S4096x128 .bf16) (x4 : Vec F S1x512 .f32) (x6 : Vec F S256x4096 .f32) (x7 : Vec F S4096x4096 .bf16) :
    Σ' (LA : List (View.Piece (Elt F) S256x4096 .f32)), { LT : List (View.Piece (Elt F) S4096x4096 .bf16) //
      ∀ (x5 : Vec F S4096x512 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f LA) ∗ (arg7.view.loc (c : Thread nD τ) ↦[arg7.view.set]{fullShare} arg7.view.writes (Elt F) (harg7.unread x7) LT)) -∗ K ⟨⟩))
          ⊢ wp frame (wpE (defs₀ (F := F)) Variants.none c none) E (cc0__gcn_body i arg1 harg1 arg2 harg2 arg3 harg3 arg4 harg4 arg5 harg5 arg6 harg6 arg7 harg7) K } := by
  refine ⟨?_, ?_, fun x5 E K => ?run⟩
  case run =>
    simp only [cc0__gcn_body_eq_skeleton]; unfold cc0__gcn_body_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg1.eq_unread hf1; obtain rfl := harg2.eq_unread hf2; obtain rfl := harg3.eq_unread hf3; obtain rfl := harg4.eq_unread hf4
    obtain rfl := harg6.eq_unread hf6; obtain rfl := harg7.eq_unread hf7
    sl_exec (disch := first | sl_exact hc0 | sl_exact hc1 | sl_exact hc2 | sl_exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact hf5
      iexact H5
    isplitl [H6]
    · iexists _; iexact H6
    iexact H7

set_option maxHeartbeats 4000000 in
/-- The body at the combining point: both halves of the accumulator are rewritten. -/
noncomputable def runMid (c : Dev nD) (i : grid0.Coords) (arg1 : Memref sig .tc .vmem S4x128x256 .f32) (harg1 : arg1.IsWhole) (arg2 : Memref sig .tc .vmem S256x4096 .f32) (harg2 : arg2.IsWhole) (arg3 : Memref sig .tc .vmem S4096x128 .bf16) (harg3 : arg3.IsWhole) (arg4 : Memref sig .tc .vmem S1x512 .f32) (harg4 : arg4.IsWhole) (arg5 : Memref sig .tc .vmem S4096x512 .f32) (harg5 : arg5.IsWhole) (arg6 : Memref sig .tc .vmem S256x4096 .f32) (harg6 : arg6.IsWhole) (arg7 : Memref sig .tc .vmem S4096x4096 .bf16) (harg7 : arg7.IsWhole) (hc0 : ¬isFirst i) (hc1 : ¬isAcc i) (hc2 : isMid i) (hc3 : ¬isOut i)
    (x1 : Vec F S4x128x256 .f32) (x2 : Vec F S256x4096 .f32) (x3 : Vec F S4096x128 .bf16) (x4 : Vec F S1x512 .f32) (x6 : Vec F S256x4096 .f32) (x7 : Vec F S4096x4096 .bf16) :
    { LA : List (View.Piece (Elt F) S256x4096 .f32) //
      ∀ (x5 : Vec F S4096x512 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (arg6.view.loc (c : Thread nD τ) ↦[arg6.view.set]{fullShare} arg6.view.writes (Elt F) (harg6.unread x6) LA) ∗ owns (c : Thread nD τ) arg7 fullShare x7) -∗ K ⟨⟩))
          ⊢ wp frame (wpE (defs₀ (F := F)) Variants.none c none) E (cc0__gcn_body i arg1 harg1 arg2 harg2 arg3 harg3 arg4 harg4 arg5 harg5 arg6 harg6 arg7 harg7) K } := by
  refine ⟨?_, fun x5 E K => ?run⟩
  case run =>
    simp only [cc0__gcn_body_eq_skeleton]; unfold cc0__gcn_body_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg1.eq_unread hf1; obtain rfl := harg2.eq_unread hf2; obtain rfl := harg3.eq_unread hf3; obtain rfl := harg4.eq_unread hf4
    obtain rfl := harg6.eq_unread hf6; obtain rfl := harg7.eq_unread hf7
    sl_exec (disch := first | sl_exact hc0 | sl_exact hc1 | sl_exact hc2 | sl_exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact hf5
      iexact H5
    isplitl [H6]
    · iexact H6
    iexists _; isplitr; · ipureintro; exact harg7.read_unread _
    iexact H7

set_option maxHeartbeats 4000000 in
/-- The body at an output point: the output block is stored. -/
noncomputable def runOut (c : Dev nD) (i : grid0.Coords) (arg1 : Memref sig .tc .vmem S4x128x256 .f32) (harg1 : arg1.IsWhole) (arg2 : Memref sig .tc .vmem S256x4096 .f32) (harg2 : arg2.IsWhole) (arg3 : Memref sig .tc .vmem S4096x128 .bf16) (harg3 : arg3.IsWhole) (arg4 : Memref sig .tc .vmem S1x512 .f32) (harg4 : arg4.IsWhole) (arg5 : Memref sig .tc .vmem S4096x512 .f32) (harg5 : arg5.IsWhole) (arg6 : Memref sig .tc .vmem S256x4096 .f32) (harg6 : arg6.IsWhole) (arg7 : Memref sig .tc .vmem S4096x4096 .bf16) (harg7 : arg7.IsWhole) (hc0 : ¬isFirst i) (hc1 : ¬isAcc i) (hc2 : ¬isMid i) (hc3 : isOut i)
    (x1 : Vec F S4x128x256 .f32) (x2 : Vec F S256x4096 .f32) (x3 : Vec F S4096x128 .bf16) (x4 : Vec F S1x512 .f32) (x6 : Vec F S256x4096 .f32) (x7 : Vec F S4096x4096 .bf16) :
    { LO : List (View.Piece (Elt F) S4096x512 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ owns (c : Thread nD τ) arg6 fullShare x6 ∗ owns (c : Thread nD τ) arg7 fullShare x7
            ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f LO) ∗ owns (c : Thread nD τ) arg6 fullShare x6 ∗ owns (c : Thread nD τ) arg7 fullShare x7) -∗ K ⟨⟩))
          ⊢ wp frame (wpE (defs₀ (F := F)) Variants.none c none) E (cc0__gcn_body i arg1 harg1 arg2 harg2 arg3 harg3 arg4 harg4 arg5 harg5 arg6 harg6 arg7 harg7) K } := by
  refine ⟨?_, fun E K => ?run⟩
  case run =>
    simp only [cc0__gcn_body_eq_skeleton]; unfold cc0__gcn_body_skel
    unfold owns
    iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := harg1.eq_unread hf1; obtain rfl := harg2.eq_unread hf2; obtain rfl := harg3.eq_unread hf3; obtain rfl := harg4.eq_unread hf4
    obtain rfl := harg6.eq_unread hf6; obtain rfl := harg7.eq_unread hf7
    sl_exec (disch := first | sl_exact hc0 | sl_exact hc1 | sl_exact hc2 | sl_exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; iexact H5
    isplitl [H6]
    · iexists _; isplitr; · ipureintro; exact harg6.read_unread _
      iexact H6
    iexists _; isplitr; · ipureintro; exact harg7.read_unread _
    iexact H7

end Cert.KernelIdeal.Own

end
-- ==== Proof.FrameKernelIdeal.lean ====
/- The frame of the program as printed: it ends, changes no argument and leaves every semaphore at zero. -/
module

public import proofs.«01_k».proof.Proof.RunKernelIdeal
public import Idealize.ShloMosaic.Lib.Claim

@[expose] public section

set_option maxRecDepth 16384

noncomputable section

namespace Cert.KernelIdeal.Own.Weak

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two scratch buffers as the body receives them. -/
abbrev scA : Memref sig .tc .vmem S256x4096 .f32 := Memref.whole cc0_scratch0
abbrev scT : Memref sig .tc .vmem S4096x4096 .bf16 := Memref.whole cc0_scratch1

/-- The launch's invariant, the scratch buffers owned at some contents. -/
theorem launch_inv_eq (c : Dev nD) :
    (Pipeline.ΦA spec0 c : sProp 𝕄)
      = iprop(iprop((∃ d, owns (c : Thread nD τ) scA fullShare d) ∗ (∃ d, owns (c : Thread nD τ) scT fullShare d)) ∗ (∃ r, prngReg c r)) := by
  unfold Pipeline.ΦA; rw [scopedRest0_eq]; simp only [scA, scT, owns_whole]; try rfl

/-- The staging buffers at a point and that they are whole. -/
abbrev mw0 (t : Fin cfg0.N) := win0_0.stage (cfg0.slots t 0)
abbrev mw1 (t : Fin cfg0.N) := win0_1.stage (cfg0.slots t 1)
abbrev mw2 (t : Fin cfg0.N) := win0_2.stage (cfg0.slots t 2)
abbrev mw3 (t : Fin cfg0.N) := win0_3.stage (cfg0.slots t 3)
abbrev mw4 (t : Fin cfg0.N) := win0_4.stage (cfg0.slots t 4)

/-- The body table's row at a point is the body on that point's buffers. -/
theorem body_row (t : Fin cfg0.N) :
    defs₀ (F := F) .tc cfg0.body (cfg0.bodyArgs t (cfg0.slots t)) = bodyAt0 t := by
  unfold defs₀; rw [Defs.onTc_tc]

/-- An input's buffer is left holding its block. -/
theorem never_idle0 : ∀ t : Fin cfg0.N, cfg0.idle 0 (grid0.coords t) = false := fun _ => rfl
theorem never_idle1 : ∀ t : Fin cfg0.N, cfg0.idle 1 (grid0.coords t) = false := fun _ => rfl
theorem never_idle2 : ∀ t : Fin cfg0.N, cfg0.idle 2 (grid0.coords t) = false := fun _ => rfl
theorem never_idle3 : ∀ t : Fin cfg0.N, cfg0.idle 3 (grid0.coords t) = false := fun _ => rfl

/-- The proof data: inputs left at their blocks, nothing said of the scratch buffers or of the output. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (mw4 t).view.read (Elt F) (mw4 t).view.junk
  Φ _ := Pipeline.ΦA spec0 c
  q _ := fullShare
  owed _ := 0

/-- Which windows' contents are not tracked: the output. -/
abbrev fgt : Fin cfg0.W → Bool := fun w => w.val == 4

theorem dats_A (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (dats_A m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (dats_A m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (dats_A m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (dats_A m c 3) (after3 m c) t d

/-- What the body is called with at a point. -/
def bodyPre (c : Dev nD) (t : Fin cfg0.N) : sProp 𝕄 :=
  iprop(Pipeline.ΦA spec0 c ∗ (dats m 0 c).owesAt () t.castSucc
    ∗ (∃ d, owns (c : Thread nD τ) (mw0 t) fullShare ((dats m 0 c).before 0 t d))
    ∗ (∃ d, owns (c : Thread nD τ) (mw1 t) fullShare ((dats m 0 c).before 1 t d))
    ∗ (∃ d, owns (c : Thread nD τ) (mw2 t) fullShare ((dats m 0 c).before 2 t d))
    ∗ (∃ d, owns (c : Thread nD τ) (mw3 t) fullShare ((dats m 0 c).before 3 t d))
    ∗ (∃ X, owns (c : Thread nD τ) (mw4 t) fullShare X))

/-- What it returns. -/
def bodyPost (c : Dev nD) (t : Fin cfg0.N) : sProp 𝕄 :=
  iprop(Pipeline.ΦA spec0 c ∗ (dats m 0 c).owesAt () t.castSucc
    ∗ owns (c : Thread nD τ) (mw0 t) fullShare (iblk m c 0 t)
    ∗ owns (c : Thread nD τ) (mw1 t) fullShare (iblk m c 1 t)
    ∗ owns (c : Thread nD τ) (mw2 t) fullShare (iblk m c 2 t)
    ∗ owns (c : Thread nD τ) (mw3 t) fullShare (iblk m c 3 t)
    ∗ (∃ X, owns (c : Thread nD τ) (mw4 t) fullShare X))

set_option maxHeartbeats 1600000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [launch_inv_eq]
  obtain hz | hz | hz | hz : t.val = 0 ∨ (t.val ≠ 0 ∧ t.val < 16) ∨ t.val = 16 ∨ 16 < t.val := by omega
  · iintro ⟨⟨⟨⟨%a, HA⟩, ⟨%b, HT⟩⟩, Hg⟩, Ho, ⟨%d0, H0⟩, ⟨%d1, H1⟩, ⟨%d2, H2⟩, ⟨%d3, H3⟩, ⟨%d4, H4⟩⟩
    iapply ((runFirst c (grid0.coords t) _ _ _ _ _ _ _ _ _ _ _ _ _ _ ((isFirst_iff t).mpr (by omega)) ((isAcc_iff t).mpr (by omega)) (fun h => absurd ((isMid_iff t).mp h) (by omega)) (fun h => absurd ((isOut_iff t).mp h) (by omega)) (iblk m c 0 t) (iblk m c 1 t) (iblk m c 2 t) (iblk m c 3 t) a b).2.2 _ Set.univ _)
    isplitl [H0]; · iexact H0
    isplitl [H1]; · iexact H1
    isplitl [H2]; · iexact H2
    isplitl [H3]; · iexact H3
    isplitl [H4]; · iexact H4
    isplitl [HA]; · iexact HA
    isplitl [HT]; · iexact HT
    iintro ⟨H0, H1, H2, H3, H4, ⟨%ea, HA⟩, HT⟩
    isplitl [HA HT Hg]
    · isplitl [HA HT]
      · isplitl [HA]
        · iexists _; unfold owns; iexists _; isplitr
          swap; · iexact HA
          ipureintro; rfl
        iexists _; unfold owns; iexists _; isplitr
        swap; · iexact HT
        ipureintro; rfl
      iexact Hg
    isplitl [Ho]; · iexact Ho
    isplitl [H0]; · iexact H0
    isplitl [H1]; · iexact H1
    isplitl [H2]; · iexact H2
    isplitl [H3]; · iexact H3
    iexists _; iexact H4
  · iintro ⟨⟨⟨⟨%a, HA⟩, ⟨%b, HT⟩⟩, Hg⟩, Ho, ⟨%d0, H0⟩, ⟨%d1, H1⟩, ⟨%d2, H2⟩, ⟨%d3, H3⟩, ⟨%d4, H4⟩⟩
    iapply ((runAcc c (grid0.coords t) _ _ _ _ _ _ _ _ _ _ _ _ _ _ (fun h => absurd ((isFirst_iff t).mp h) (by omega)) ((isAcc_iff t).mpr (by omega)) (fun h => absurd ((isMid_iff t).mp h) (by omega)) (fun h => absurd ((isOut_iff t).mp h) (by omega)) (iblk m c 0 t) (iblk m c 1 t) (iblk m c 2 t) (iblk m c 3 t) a b).2.2 _ Set.univ _)
    isplitl [H0]; · iexact H0
    isplitl [H1]; · iexact H1
    isplitl [H2]; · iexact H2
    isplitl [H3]; · iexact H3
    isplitl [H4]; · iexact H4
    isplitl [HA]; · iexact HA
    isplitl [HT]; · iexact HT
    iintro ⟨H0, H1, H2, H3, H4, ⟨%ea, HA⟩, HT⟩
    isplitl [HA HT Hg]
    · isplitl [HA HT]
      · isplitl [HA]
        · iexists _; unfold owns; iexists _; isplitr
          swap; · iexact HA
          ipureintro; rfl
        iexists _; unfold owns; iexists _; isplitr
        swap; · iexact HT
        ipureintro; rfl
      iexact Hg
    isplitl [Ho]; · iexact Ho
    isplitl [H0]; · iexact H0
    isplitl [H1]; · iexact H1
    isplitl [H2]; · iexact H2
    isplitl [H3]; · iexact H3
    iexists _; iexact H4
  · iintro ⟨⟨⟨⟨%a, HA⟩, ⟨%b, HT⟩⟩, Hg⟩, Ho, ⟨%d0, H0⟩, ⟨%d1, H1⟩, ⟨%d2, H2⟩, ⟨%d3, H3⟩, ⟨%d4, H4⟩⟩
    iapply ((runMid c (grid0.coords t) _ _ _ _ _ _ _ _ _ _ _ _ _ _ (fun h => absurd ((isFirst_iff t).mp h) (by omega)) (fun h => absurd ((isAcc_iff t).mp h) (by omega)) ((isMid_iff t).mpr (by omega)) (fun h => absurd ((isOut_iff t).mp h) (by omega)) (iblk m c 0 t) (iblk m c 1 t) (iblk m c 2 t) (iblk m c 3 t) a b).2 _ Set.univ _)
    isplitl [H0]; · iexact H0
    isplitl [H1]; · iexact H1
    isplitl [H2]; · iexact H2
    isplitl [H3]; · iexact H3
    isplitl [H4]; · iexact H4
    isplitl [HA]; · iexact HA
    isplitl [HT]; · iexact HT
    iintro ⟨H0, H1, H2, H3, H4, HA, HT⟩
    isplitl [HA HT Hg]
    · isplitl [HA HT]
      · isplitl [HA]
        · iexists _; unfold owns; iexists _; isplitr
          swap; · iexact HA
          ipureintro; rfl
        iexists _; iexact HT
      iexact Hg
    isplitl [Ho]; · iexact Ho
    isplitl [H0]; · iexact H0
    isplitl [H1]; · iexact H1
    isplitl [H2]; · iexact H2
    isplitl [H3]; · iexact H3
    iexists _; iexact H4
  · iintro ⟨⟨⟨⟨%a, HA⟩, ⟨%b, HT⟩⟩, Hg⟩, Ho, ⟨%d0, H0⟩, ⟨%d1, H1⟩, ⟨%d2, H2⟩, ⟨%d3, H3⟩, ⟨%d4, H4⟩⟩
    iapply ((runOut c (grid0.coords t) _ _ _ _ _ _ _ _ _ _ _ _ _ _ (fun h => absurd ((isFirst_iff t).mp h) (by omega)) (fun h => absurd ((isAcc_iff t).mp h) (by omega)) (fun h => absurd ((isMid_iff t).mp h) (by omega)) ((isOut_iff t).mpr (by omega)) (iblk m c 0 t) (iblk m c 1 t) (iblk m c 2 t) (iblk m c 3 t) a b).2 Set.univ _)
    isplitl [H0]; · iexact H0
    isplitl [H1]; · iexact H1
    isplitl [H2]; · iexact H2
    isplitl [H3]; · iexact H3
    isplitl [H4]; · iexists _; iexact H4
    isplitl [HA]; · iexact HA
    isplitl [HT]; · iexact HT
    iintro ⟨H0, H1, H2, H3, ⟨%e4, H4⟩, HA, HT⟩
    isplitl [HA HT Hg]
    · isplitl [HA HT]
      · isplitl [HA]
        · iexists _; iexact HA
        iexists _; iexact HT
      iexact Hg
    isplitl [Ho]; · iexact Ho
    isplitl [H0]; · iexact H0
    isplitl [H1]; · iexact H1
    isplitl [H2]; · iexact H2
    isplitl [H3]; · iexact H3
    iexists _; unfold owns; iexists _; isplitr
    swap; · iexact H4
    ipureintro; rfl

/-- The library's obligation at every point. -/
theorem body_obligation (c : Dev nD) : Pipeline.BodyObligationLoose (dats (F := F) m 0 c) (defs₀ (F := F)) Variants.none () Set.univ fgt :=
  have h : BodyObligation (dats (F := F) m 0 c) (defs₀ (F := F)) Variants.none () Set.univ fgt := fun t => by
    rw [bigSep_W0, bigSep_W0, body_row]
    exact triple_restated (sound_body m c t) rfl .rfl fun _ => .rfl
  h.loose

set_option backward.isDefEq.respectTransparency.types false in
set_option maxHeartbeats 800000 in
/-- The run: every execution ends with the inputs' arrays and the bypassing buffers as they were, every semaphore zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => body_obligation m c) (hshare := fun c => (dats m 0 c).share_full fun _ => rfl)
    (howed := fun _ _ => rfl) (V := V m) (hmain := hmain m Variants.none) (hA := dats_A m) (hΦ := fun _ _ => rfl)

/-- The program ends with its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨((h.1 c).2 main_arg0 (Pipeline.mem_restRefs_of main_arg0 (by decide) (by decide))).trans (V_main_arg0 m c),
       ((h.1 c).2 main_arg1 (Pipeline.mem_restRefs_of main_arg1 (by decide) (by decide))).trans (V_main_arg1 m c),
       (Pipeline.RDat.FramePost.arr_in h.1 c 0 rfl).trans ((dats_A m c 0).trans (V_main_arg2 m c)),
       ((h.1 c).2 main_arg3 (Pipeline.mem_restRefs_of main_arg3 (by decide) (by decide))).trans (V_main_arg3 m c)⟩, h.2⟩) (run_main m ρ)

end Cert.KernelIdeal.Own.Weak

end
-- ==== Proof.Overlay.lean ====
/- Contents of a buffer after unmasked stores, as rectangles laid over one another. -/
module

public import Idealize.ShloMosaic.Lib.Pipeline.Value
public import Idealize.ShloMosaic.Lib.VecWindow
public import Idealize.ShloMosaic.Lib.Pipeline.ValueKit.Tiles

@[expose] public section

noncomputable section

namespace Cert.Own

open Idealize.ShloMosaic Idealize.SL Idealize.SL.Sem

variable {Val : EltTy → Type} {sig : RefSig} {κ : Kind} {sp : Space} {s : Shape} {e : EltTy}

/-- The contents read after a list of stores: the last store's payload laid over what the earlier ones leave. -/
theorem read_writes_over (v : View sig κ sp s e) (f : v.ty.Contents Val) (p : View.Piece Val s e)
    (L : List (View.Piece Val s e)) :
    v.read Val (v.writes Val f (p :: L)) = p.1.overlay (v.read Val (v.writes Val f L)) p.2 := by
  funext y
  by_cases hy : y ∈ p.1.set
  · obtain ⟨r, w⟩ := p
    obtain ⟨x, rfl⟩ : ∃ x, r.emb x = y := r.exists_idx_of_mem hy
    rw [View.read_writes_cons_emb]; exact (r.overlay_emb _ _ x).symm
  · have hy' : y ∉ Finset.univ.map p.1.emb := by rwa [Rect.map_emb_univ]
    rw [View.writes_cons, View.read_slice_write_of_not_mem p.1 _ _ _ hy']
    exact (p.1.overlay_of_not_mem _ _ hy).symm

/-- A payload laid over the whole shape is the result. -/
theorem overlay_whole {α : Type} {off : Fin s.rank → ℕ} (inb : ∀ a, off a + s.size a ≤ s.size a) (X : s.Idx → α) (w : s.Idx → α) :
    (Rect.unit off s.size inb).overlay X w = w := by
  funext y
  have h := (Rect.unit off s.size inb).overlay_emb X w y
  rw [Rect.emb_unit_full] at h
  exact h

/-- Under a unit-stride rectangle the overlay reads the payload. -/
theorem overlay_hit {α : Type} (off size : Fin s.rank → ℕ) (inb : ∀ a, off a + size a ≤ s.size a) (X : s.Idx → α)
    (w : (Rect.unit off size inb).shape.Idx → α) (y : s.Idx) (x : (Rect.unit off size inb).shape.Idx)
    (h : ∀ a, (y a : ℕ) = off a + x a) : (Rect.unit off size inb).overlay X w y = w x := by
  have e : (Rect.unit off size inb).emb x = y :=
    funext fun a => Fin.ext ((Rect.idx_unit_val off size inb x a).trans (h a).symm)
  rw [← e]; exact Rect.overlay_emb _ _ _ x

/-- Outside it the overlay reads what lies below. -/
theorem overlay_miss {α : Type} (off size : Fin s.rank → ℕ) (inb : ∀ a, off a + size a ≤ s.size a) (X : s.Idx → α)
    (w : (Rect.unit off size inb).shape.Idx → α) (y : s.Idx)
    (h : ∃ a, (y a : ℕ) < off a ∨ off a + size a ≤ y a) : (Rect.unit off size inb).overlay X w y = X y := by
  refine Rect.overlay_of_not_mem _ _ _ fun hy => ?_
  obtain ⟨x, e⟩ := (Rect.unit off size inb).exists_idx_of_mem hy
  obtain ⟨a, ha⟩ := h
  have e1 : (y a : ℕ) = off a + x a := by rw [← e]; exact Rect.idx_unit_val off size inb x a
  have e2 : (x a : ℕ) < size a := (x a).isLt
  omega

end Cert.Own

end
-- ==== Proof.Steps.lean ====
/- What each case of the kernel body leaves in the scratch buffers and in the output block, as functions of what it
   found there. -/
module

public import proofs.«01_k».proof.Proof.RunKernelIdeal
public import proofs.«01_k».proof.Proof.Overlay

@[expose] public section

set_option maxRecDepth 16384

noncomputable section

namespace Cert.KernelIdeal.Own

open Cert.KernelIdeal.Gen Cert.Own
open Idealize.ShloMosaic Idealize.ShloMosaic.TcCoe
open Idealize.SL Idealize.SL.Sem

variable {F : FTy → Type} [FloatOps F]

/-- A member of the weight block, as the body loads it. -/
def kpart (p : ℕ) (inb : ∀ a, (![p, 0, 0] : Fin 3 → ℕ) a + S1x128x256.size a ≤ S4x128x256.size a)
    (K : Vec F S4x128x256 .f32) : Vec F S1x128x256 .f32 :=
  View.ld K (Rect.unit (s := S4x128x256) ![p, 0, 0] S1x128x256.size inb)

/-- The accumulator after the product of the point's blocks is added. -/
def accA (K : Vec F S4x128x256 .f32) (S a : Vec F S256x4096 .f32) : Vec F S256x4096 .f32 :=
  k0_pay8 (kpart 1 inb_S4x128x256_S1x128x256_1_0_0 K) (kpart 3 inb_S4x128x256_S1x128x256_3_0_0 K) a S

/-- The columns of the upper half the point adds into. -/
abbrev rTop (i : grid0.Coords) (h : isAcc i) : Rect S256x4096 := Rect.unit (s := S256x4096) (k0_off1 i) S128x256.size (k0_off1_inb i h)
/-- The columns of the lower half the point adds into. -/
abbrev rLow (i : grid0.Coords) (h : isAcc i) : Rect S256x4096 := Rect.unit (s := S256x4096) (k0_off2 i) S128x256.size (k0_off2_inb i h)
/-- The rows of the second scratch buffer the point fills. -/
abbrev rRow (i : grid0.Coords) (h : isAcc i) : Rect S4096x4096 := Rect.unit (s := S4096x4096) (k0_off3 i) S256x4096.size (k0_off3_inb i h)

/-- After the first weight block is added into its columns. -/
def accB (i : grid0.Coords) (h : isAcc i) (K : Vec F S4x128x256 .f32) (A : Vec F S256x4096 .f32) : Vec F S256x4096 .f32 :=
  (rTop i h).overlay A (k0_pay9 (View.ld A (rTop i h)) (kpart 0 inb_S4x128x256_S1x128x256_0_0_0 K))

/-- After half the third weight block is added into its columns. -/
def accC (i : grid0.Coords) (h : isAcc i) (K : Vec F S4x128x256 .f32) (A : Vec F S256x4096 .f32) : Vec F S256x4096 .f32 :=
  (rLow i h).overlay A (k0_pay2 (k0_pay10 (View.ld A (rLow i h)) (kpart 2 inb_S4x128x256_S1x128x256_2_0_0 K)))

/-- One accumulating point on the accumulator. -/
def accStep (i : grid0.Coords) (h : isAcc i) (K : Vec F S4x128x256 .f32) (S a : Vec F S256x4096 .f32) : Vec F S256x4096 .f32 :=
  accC i h K (accB i h K (accA K S a))

/-- One accumulating point on the second scratch buffer. -/
def t1Step (i : grid0.Coords) (h : isAcc i) (S : Vec F S256x4096 .f32) (b : Vec F S4096x4096 .bf16) : Vec F S4096x4096 .bf16 :=
  (rRow i h).overlay b (k0_pay3 S)

/-- The two halves of the accumulator. -/
abbrev rHi : Rect S256x4096 := Rect.unit (s := S256x4096) ![0, 0] S128x4096.size inb_S256x4096_S128x4096_0_0
abbrev rLo : Rect S256x4096 := Rect.unit (s := S256x4096) ![128, 0] S128x4096.size inb_S256x4096_S128x4096_128_0

/-- The combining point on the accumulator. -/
def midStep (a : Vec F S256x4096 .f32) (b : Vec F S4096x4096 .bf16) : Vec F S256x4096 .f32 :=
  rLo.overlay (rHi.overlay a (k0_pay5 (View.ld a rLo) (View.ld a rHi))) (k0_pay6 (View.ld a rLo) b)

/-- The block an output point stores. -/
def outStep (i : grid0.Coords) (h : isOut i) (X : Vec F S4096x128 .bf16) (B : Vec F S1x512 .f32)
    (a : Vec F S256x4096 .f32) (b : Vec F S4096x4096 .bf16) : Vec F S4096x512 .f32 :=
  k0_pay7 (View.ld a rLo) (View.ld b (Rect.unit (s := S4096x4096) (k0_off4 i) S4096x512.size (k0_off4_inb i h)))
    (View.ld a (Rect.unit (s := S256x4096) (k0_off5 i) S128x512.size (k0_off5_inb i h))) X B

section Reads
variable (c : Dev nD) (i : grid0.Coords) (arg1 : Memref sig .tc .vmem S4x128x256 .f32) (harg1 : arg1.IsWhole) (arg2 : Memref sig .tc .vmem S256x4096 .f32) (harg2 : arg2.IsWhole) (arg3 : Memref sig .tc .vmem S4096x128 .bf16) (harg3 : arg3.IsWhole) (arg4 : Memref sig .tc .vmem S1x512 .f32) (harg4 : arg4.IsWhole) (arg5 : Memref sig .tc .vmem S4096x512 .f32) (harg5 : arg5.IsWhole) (arg6 : Memref sig .tc .vmem S256x4096 .f32) (harg6 : arg6.IsWhole) (arg7 : Memref sig .tc .vmem S4096x4096 .bf16) (harg7 : arg7.IsWhole)
variable (x1 : Vec F S4x128x256 .f32) (x2 : Vec F S256x4096 .f32) (x3 : Vec F S4096x128 .bf16) (x4 : Vec F S1x512 .f32) (x6 : Vec F S256x4096 .f32) (x7 : Vec F S4096x4096 .bf16)

/-- A load of a whole buffer at zero offsets reads it. -/
theorem ld_zero2 {n m : ℕ} {e : EltTy} (inb) (X : (⟨2, ![n, m]⟩ : Shape).Idx → Elt F e) :
    View.ld X (Rect.unit (s := ⟨2, ![n, m]⟩) ![0, 0] (⟨2, ![n, m]⟩ : Shape).size inb) = X :=
  View.ld_unit_zero (by funext a; match a with | ⟨0, _⟩ => rfl | ⟨1, _⟩ => rfl) inb X

/-- The accumulator after an accumulating point. -/
theorem runAcc_acc (hc0 hc1 hc2 hc3) (f) :
    arg6.view.read (Elt F) (arg6.view.writes (Elt F) f
      (runAcc (F := F) c i arg1 harg1 arg2 harg2 arg3 harg3 arg4 harg4 arg5 harg5 arg6 harg6 arg7 harg7 hc0 hc1 hc2 hc3 x1 x2 x3 x4 x6 x7).1)
      = accStep i hc1 x1 x2 x6 := by
  have e1 : ∀ g, arg6.view.read (Elt F) (arg6.view.writes (Elt F) g (runAcc.sl.H6_1 c arg1 harg1 arg2 harg2 arg6 harg6 x1 x2 x6)) = accA x1 x2 x6 := by
    intro g
    unfold runAcc.sl.H6_1
    refine (View.read_writes_full _ _ _ _ _).trans ?_
    unfold accA kpart
    simp only [View.readAt_eq_ld, harg1.read_unread, harg2.read_unread, harg6.read_unread]
    congr 1
    · exact ld_zero2 _ _
    · exact ld_zero2 _ _
  have e2 : ∀ g, arg6.view.read (Elt F) (arg6.view.writes (Elt F) g (runAcc.sl.H6_2 c i arg1 harg1 arg2 harg2 arg6 harg6 hc1 x1 x2 x6)) = accB i hc1 x1 (accA x1 x2 x6) := by
    intro g
    unfold runAcc.sl.H6_2
    rw [read_writes_over, e1]
    unfold accB runAcc.sl.v28 kpart
    simp only [View.readAt_eq_ld, harg1.read_unread, e1]
  show arg6.view.read (Elt F) (arg6.view.writes (Elt F) f (⟨rLow i hc1, k0_pay2 (k0_pay10 (runAcc.sl.v37 c i arg1 harg1 arg2 harg2 arg6 harg6 hc1 x1 x2 x6) _)⟩ :: runAcc.sl.H6_2 c i arg1 harg1 arg2 harg2 arg6 harg6 hc1 x1 x2 x6)) = _
  rw [read_writes_over, e2]
  unfold accStep accC runAcc.sl.v37 kpart
  simp only [View.readAt_eq_ld, harg1.read_unread, e2]

/-- The accumulator after the first point, whatever it held. -/
theorem runFirst_acc (hc0 hc1 hc2 hc3) (f) :
    arg6.view.read (Elt F) (arg6.view.writes (Elt F) f
      (runFirst (F := F) c i arg1 harg1 arg2 harg2 arg3 harg3 arg4 harg4 arg5 harg5 arg6 harg6 arg7 harg7 hc0 hc1 hc2 hc3 x1 x2 x3 x4 x6 x7).1)
      = accStep i hc1 x1 x2 k0_pay1 := by
  have e1 : ∀ g, arg6.view.read (Elt F) (arg6.view.writes (Elt F) g (runFirst.sl.H6_2 c arg1 harg1 arg2 harg2 arg6 x1 x2)) = accA x1 x2 k0_pay1 := by
    intro g
    unfold runFirst.sl.H6_2
    refine (View.read_writes_full _ _ _ _ _).trans ?_
    unfold accA kpart
    simp only [View.readAt_eq_ld, harg1.read_unread, harg2.read_unread]
    congr 1
    · unfold runFirst.sl.v19 runFirst.sl.H6_1
      simp only [View.readCov, View.readAt_eq_ld]
      exact (ld_zero2 _ _).trans (View.read_writes_full _ _ _ _ _)
    · exact ld_zero2 _ _
  have e2 : ∀ g, arg6.view.read (Elt F) (arg6.view.writes (Elt F) g (runFirst.sl.H6_3 c i arg1 harg1 arg2 harg2 arg6 hc1 x1 x2)) = accB i hc1 x1 (accA x1 x2 k0_pay1) := by
    intro g
    unfold runFirst.sl.H6_3
    rw [read_writes_over, e1]
    unfold accB runFirst.sl.v28 kpart
    simp only [View.readAt_eq_ld, harg1.read_unread, e1]
  show arg6.view.read (Elt F) (arg6.view.writes (Elt F) f (⟨rLow i hc1, k0_pay2 (k0_pay10 (runFirst.sl.v37 c i arg1 harg1 arg2 harg2 arg6 hc1 x1 x2) _)⟩ :: runFirst.sl.H6_3 c i arg1 harg1 arg2 harg2 arg6 hc1 x1 x2)) = _
  rw [read_writes_over, e2]
  unfold accStep accC runFirst.sl.v37 kpart
  simp only [View.readAt_eq_ld, harg1.read_unread, e2]

/-- The second scratch buffer after an accumulating point. -/
theorem runAcc_t1 (hc0 hc1 hc2 hc3) :
    arg7.view.read (Elt F) (arg7.view.writes (Elt F) (harg7.unread x7)
      (runAcc (F := F) c i arg1 harg1 arg2 harg2 arg3 harg3 arg4 harg4 arg5 harg5 arg6 harg6 arg7 harg7 hc0 hc1 hc2 hc3 x1 x2 x3 x4 x6 x7).2.1)
      = t1Step i hc1 x2 x7 := by
  show arg7.view.read (Elt F) (arg7.view.writes (Elt F) (harg7.unread x7) [⟨rRow i hc1, k0_pay3 _⟩]) = _
  rw [read_writes_over]
  unfold t1Step
  simp only [View.readAt_eq_ld, View.writes_nil, harg2.read_unread, harg7.read_unread]
  congr 2
  exact ld_zero2 _ _

/-- The second scratch buffer after the first point. -/
theorem runFirst_t1 (hc0 hc1 hc2 hc3) :
    arg7.view.read (Elt F) (arg7.view.writes (Elt F) (harg7.unread x7)
      (runFirst (F := F) c i arg1 harg1 arg2 harg2 arg3 harg3 arg4 harg4 arg5 harg5 arg6 harg6 arg7 harg7 hc0 hc1 hc2 hc3 x1 x2 x3 x4 x6 x7).2.1)
      = t1Step i hc1 x2 x7 := by
  show arg7.view.read (Elt F) (arg7.view.writes (Elt F) (harg7.unread x7) [⟨rRow i hc1, k0_pay3 _⟩]) = _
  rw [read_writes_over]
  unfold t1Step
  simp only [View.readAt_eq_ld, View.writes_nil, harg2.read_unread, harg7.read_unread]
  congr 2
  exact ld_zero2 _ _

/-- The accumulator after the combining point. -/
theorem runMid_acc (hc0 hc1 hc2 hc3) :
    arg6.view.read (Elt F) (arg6.view.writes (Elt F) (harg6.unread x6)
      (runMid (F := F) c i arg1 harg1 arg2 harg2 arg3 harg3 arg4 harg4 arg5 harg5 arg6 harg6 arg7 harg7 hc0 hc1 hc2 hc3 x1 x2 x3 x4 x6 x7).1)
      = midStep x6 x7 := by
  show arg6.view.read (Elt F) (arg6.view.writes (Elt F) (harg6.unread x6) [⟨rLo, k0_pay6 _ _⟩, ⟨rHi, k0_pay5 _ _⟩]) = _
  rw [read_writes_over, read_writes_over]
  unfold midStep
  simp only [View.readAt_eq_ld, View.writes_nil, harg6.read_unread, harg7.read_unread]
  congr 2
  exact ld_zero2 _ _

/-- The output block after an output point, whatever it held. -/
theorem runOut_out (hc0 hc1 hc2 hc3) (f) :
    arg5.view.read (Elt F) (arg5.view.writes (Elt F) f
      (runOut (F := F) c i arg1 harg1 arg2 harg2 arg3 harg3 arg4 harg4 arg5 harg5 arg6 harg6 arg7 harg7 hc0 hc1 hc2 hc3 x1 x2 x3 x4 x6 x7).1)
      = outStep i hc3 x3 x4 x6 x7 := by
  show arg5.view.read (Elt F) (arg5.view.writes (Elt F) f [⟨Rect.unit (s := S4096x512) ![0, 0] S4096x512.size inb_S4096x512_S4096x512_0_0, k0_pay7 _ _ _ _ _⟩]) = _
  refine (View.read_writes_full _ _ _ _ _).trans ?_
  unfold outStep
  simp only [View.readAt_eq_ld, harg3.read_unread, harg4.read_unread, harg6.read_unread, harg7.read_unread]
  congr 1
  · exact ld_zero2 _ _
  · exact ld_zero2 _ _

end Reads

end Cert.KernelIdeal.Own

end
-- ==== Proof.LaunchIdeal.lean ====
/- The run of the idealized program, for any invariant of the scratch buffers that every point keeps: the output array holds the blocks the output points store. -/
module

public import proofs.«01_k».proof.Proof.Steps
public import Idealize.ShloMosaic.Lib.Claim

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two scratch buffers as the body receives them. -/
abbrev scA : Memref sig .tc .vmem S256x4096 .f32 := Memref.whole cc0_scratch0
abbrev scT : Memref sig .tc .vmem S4096x4096 .bf16 := Memref.whole cc0_scratch1

/-- The launch's invariant, the scratch buffers owned at some contents. -/
theorem launch_inv_eq (c : Dev nD) :
    (Pipeline.ΦA spec0 c : sProp 𝕄)
      = iprop(iprop((∃ d, owns (c : Thread nD τ) scA fullShare d) ∗ (∃ d, owns (c : Thread nD τ) scT fullShare d)) ∗ (∃ r, prngReg c r)) := by
  unfold Pipeline.ΦA; rw [scopedRest0_eq]; simp only [scA, scT, owns_whole]; try rfl

/-- The staging buffers at a point and that they are whole. -/
abbrev mw0 (t : Fin cfg0.N) := win0_0.stage (cfg0.slots t 0)
abbrev mw1 (t : Fin cfg0.N) := win0_1.stage (cfg0.slots t 1)
abbrev mw2 (t : Fin cfg0.N) := win0_2.stage (cfg0.slots t 2)
abbrev mw3 (t : Fin cfg0.N) := win0_3.stage (cfg0.slots t 3)
abbrev mw4 (t : Fin cfg0.N) := win0_4.stage (cfg0.slots t 4)

/-- The body table's row at a point is the body on that point's buffers. -/
theorem body_row (t : Fin cfg0.N) :
    defs₀ (F := F) .tc cfg0.body (cfg0.bodyArgs t (cfg0.slots t)) = bodyAt0 t := by
  unfold defs₀; rw [Defs.onTc_tc]

/-- An input's buffer is left holding its block. -/
theorem never_idle0 : ∀ t : Fin cfg0.N, cfg0.idle 0 (grid0.coords t) = false := fun _ => rfl
theorem never_idle1 : ∀ t : Fin cfg0.N, cfg0.idle 1 (grid0.coords t) = false := fun _ => rfl
theorem never_idle2 : ∀ t : Fin cfg0.N, cfg0.idle 2 (grid0.coords t) = false := fun _ => rfl
theorem never_idle3 : ∀ t : Fin cfg0.N, cfg0.idle 3 (grid0.coords t) = false := fun _ => rfl

variable (Inv : Dev nD → ℕ → Vec F S256x4096 .f32 → Vec F S4096x4096 .bf16 → Prop) (G : (c : Dev nD) → Fin cfg0.N → Vec F S4096x512 .f32)

/-- The invariant before a point: the scratch buffers hold contents it allows. -/
def PhiI (c : Dev nD) (n : ℕ) : sProp 𝕄 :=
  iprop((∃ a, ∃ b, ⌜Inv c n a b⌝ ∗ owns (c : Thread nD τ) scA fullShare a ∗ owns (c : Thread nD τ) scT fullShare b) ∗ (∃ r, prngReg c r))

/-- The proof data: inputs left at their blocks, the output at the given blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => G c t
  Φ t := PhiI Inv c t.val
  q _ := fullShare
  owed _ := 0

theorem dats_A (c : Dev nD) (w : Fin cfg0.W) : (dats m Inv G 0 c).A w = V m c (Pipeline.arrRef spec0 w) := by
  dsimp only [dats]
theorem after0 (c : Dev nD) (t : Fin cfg0.N) : (dats m Inv G 0 c).after 0 t = iblk m c 0 t := by dsimp only [dats]
theorem before0 (c : Dev nD) (t : Fin cfg0.N) (d) : (dats m Inv G 0 c).before 0 t d = iblk m c 0 t :=
  before0_0_of m (dats m Inv G 0 c) (dats_A m Inv G c 0) (after0 m Inv G c) t d
theorem leaves0 (c : Dev nD) (t : Fin cfg0.N) : (dats m Inv G 0 c).leavesExact 0 t = owns (c : Thread nD τ) (mw0 t) fullShare (iblk m c 0 t) := by
  unfold Dat.leavesExact; rw [never_idle0 t, after0]
theorem after1 (c : Dev nD) (t : Fin cfg0.N) : (dats m Inv G 0 c).after 1 t = iblk m c 1 t := by dsimp only [dats]
theorem before1 (c : Dev nD) (t : Fin cfg0.N) (d) : (dats m Inv G 0 c).before 1 t d = iblk m c 1 t :=
  before0_1_of m (dats m Inv G 0 c) (dats_A m Inv G c 1) (after1 m Inv G c) t d
theorem leaves1 (c : Dev nD) (t : Fin cfg0.N) : (dats m Inv G 0 c).leavesExact 1 t = owns (c : Thread nD τ) (mw1 t) fullShare (iblk m c 1 t) := by
  unfold Dat.leavesExact; rw [never_idle1 t, after1]
theorem after2 (c : Dev nD) (t : Fin cfg0.N) : (dats m Inv G 0 c).after 2 t = iblk m c 2 t := by dsimp only [dats]
theorem before2 (c : Dev nD) (t : Fin cfg0.N) (d) : (dats m Inv G 0 c).before 2 t d = iblk m c 2 t :=
  before0_2_of m (dats m Inv G 0 c) (dats_A m Inv G c 2) (after2 m Inv G c) t d
theorem leaves2 (c : Dev nD) (t : Fin cfg0.N) : (dats m Inv G 0 c).leavesExact 2 t = owns (c : Thread nD τ) (mw2 t) fullShare (iblk m c 2 t) := by
  unfold Dat.leavesExact; rw [never_idle2 t, after2]
theorem after3 (c : Dev nD) (t : Fin cfg0.N) : (dats m Inv G 0 c).after 3 t = iblk m c 3 t := by dsimp only [dats]
theorem before3 (c : Dev nD) (t : Fin cfg0.N) (d) : (dats m Inv G 0 c).before 3 t d = iblk m c 3 t :=
  before0_3_of m (dats m Inv G 0 c) (dats_A m Inv G c 3) (after3 m Inv G c) t d
theorem leaves3 (c : Dev nD) (t : Fin cfg0.N) : (dats m Inv G 0 c).leavesExact 3 t = owns (c : Thread nD τ) (mw3 t) fullShare (iblk m c 3 t) := by
  unfold Dat.leavesExact; rw [never_idle3 t, after3]
theorem after4 (c : Dev nD) (t : Fin cfg0.N) : (dats m Inv G 0 c).after 4 t = G c t := by dsimp only [dats]
theorem out_idle : ∀ t : Fin cfg0.N, ¬isOut (grid0.coords t) → cfg0.idle 4 (grid0.coords t) = true := by decide +kernel
theorem out_noFlush : ∀ t : Fin cfg0.N, ¬isOut (grid0.coords t) → (cfg0.win 4).flush t = false := by decide +kernel
theorem out_live : ∀ t : Fin cfg0.N, isOut (grid0.coords t) → cfg0.idle 4 (grid0.coords t) = false := by decide +kernel
theorem leaves4 (c : Dev nD) (t : Fin cfg0.N) (h : isOut (grid0.coords t)) :
    (dats m Inv G 0 c).leavesExact 4 t = owns (c : Thread nD τ) (mw4 t) fullShare (G c t) := by
  unfold Dat.leavesExact; rw [out_live t h, after4]

/-- What the body is called with at a point. -/
def bodyPre (c : Dev nD) (t : Fin cfg0.N) : sProp 𝕄 :=
  iprop((dats m Inv G 0 c).Φ t.castSucc ∗ (dats m Inv G 0 c).owesAt () t.castSucc
    ∗ (∃ d, owns (c : Thread nD τ) (mw0 t) fullShare ((dats m Inv G 0 c).before 0 t d))
    ∗ (∃ d, owns (c : Thread nD τ) (mw1 t) fullShare ((dats m Inv G 0 c).before 1 t d))
    ∗ (∃ d, owns (c : Thread nD τ) (mw2 t) fullShare ((dats m Inv G 0 c).before 2 t d))
    ∗ (∃ d, owns (c : Thread nD τ) (mw3 t) fullShare ((dats m Inv G 0 c).before 3 t d))
    ∗ (∃ d, owns (c : Thread nD τ) (mw4 t) fullShare ((dats m Inv G 0 c).before 4 t d)))

/-- What it returns. -/
def bodyPost (c : Dev nD) (t : Fin cfg0.N) : sProp 𝕄 :=
  iprop((dats m Inv G 0 c).Φ t.succ ∗ (dats m Inv G 0 c).owesAt () t.succ
    ∗ (dats m Inv G 0 c).leavesExact 0 t ∗ (dats m Inv G 0 c).leavesExact 1 t ∗ (dats m Inv G 0 c).leavesExact 2 t
    ∗ (dats m Inv G 0 c).leavesExact 3 t ∗ (dats m Inv G 0 c).leavesExact 4 t)

/-- Every point keeps the invariant, and an output point stores the given block. -/
structure Keeps (c : Dev nD) : Prop where
  start : ∀ a b, Inv c 0 a b
  first : ∀ t : Fin cfg0.N, t.val = 0 → ∀ (h : isAcc (grid0.coords t)) (a : Vec F S256x4096 .f32) b, Inv c t.val a b →
    Inv c (t.val + 1) (accStep (grid0.coords t) h (iblk m c 0 t) (iblk m c 1 t) k0_pay1) (t1Step (grid0.coords t) h (iblk m c 1 t) b)
  acc : ∀ t : Fin cfg0.N, t.val ≠ 0 → t.val < 16 → ∀ (h : isAcc (grid0.coords t)) a b, Inv c t.val a b →
    Inv c (t.val + 1) (accStep (grid0.coords t) h (iblk m c 0 t) (iblk m c 1 t) a) (t1Step (grid0.coords t) h (iblk m c 1 t) b)
  mid : ∀ t : Fin cfg0.N, t.val = 16 → ∀ a b, Inv c t.val a b → Inv c (t.val + 1) (midStep a b) b
  out : ∀ t : Fin cfg0.N, 16 < t.val → ∀ (h : isOut (grid0.coords t)) a b, Inv c t.val a b →
    Inv c (t.val + 1) a b ∧ outStep (grid0.coords t) h (iblk m c 2 t) (iblk m c 3 t) a b = G c t

variable {Inv G}

set_option maxHeartbeats 1600000 in
/-- The body at any point, by the case the point is in. -/
theorem sound_body (c : Dev nD) (hk : Keeps m Inv G c) (t : Fin cfg0.N) :
    bodyPre m Inv G c t ⊢ wp frame (wpE (defs₀ (F := F)) Variants.none c none) Set.univ (bodyAt0 t) (fun _ => bodyPost m Inv G c t) := by
  unfold bodyPre bodyPost bodyAt0
  simp only [before0, before1, before2, before3]
  rw [show (dats m Inv G 0 c).owesAt () t.succ = (dats m Inv G 0 c).owesAt () t.castSucc from rfl]
  rw [show (dats m Inv G 0 c).Φ t.succ = PhiI Inv c (t.val + 1) from rfl]
  rw [show (dats m Inv G 0 c).Φ t.castSucc = PhiI Inv c t.val from rfl]
  rw [leaves0, leaves1, leaves2, leaves3]
  unfold PhiI
  obtain hz | hz | hz | hz : t.val = 0 ∨ (t.val ≠ 0 ∧ t.val < 16) ∨ t.val = 16 ∨ 16 < t.val := by omega
  · have hn : ¬isOut (grid0.coords t) := fun h => absurd ((isOut_iff t).mp h) (by omega)
    rw [Dat.leavesExact_idle (dats m Inv G 0 c) 4 t (out_idle t hn) (out_noFlush t hn)]
    iintro ⟨⟨⟨%a, %b, %hI, HA, HT⟩, Hg⟩, Ho, ⟨%d0, H0⟩, ⟨%d1, H1⟩, ⟨%d2, H2⟩, ⟨%d3, H3⟩, ⟨%d4, H4⟩⟩
    iapply ((runFirst c (grid0.coords t) _ _ _ _ _ _ _ _ _ _ _ _ _ _ ((isFirst_iff t).mpr (by omega)) ((isAcc_iff t).mpr (by omega)) (fun h => absurd ((isMid_iff t).mp h) (by omega)) (fun h => absurd ((isOut_iff t).mp h) (by omega)) (iblk m c 0 t) (iblk m c 1 t) (iblk m c 2 t) (iblk m c 3 t) a b).2.2 _ Set.univ _)
    isplitl [H0]; · iexact H0
    isplitl [H1]; · iexact H1
    isplitl [H2]; · iexact H2
    isplitl [H3]; · iexact H3
    isplitl [H4]; · iexact H4
    isplitl [HA]; · iexact HA
    isplitl [HT]; · iexact HT
    iintro ⟨H0, H1, H2, H3, H4, ⟨%ea, HA⟩, HT⟩
    isplitl [HA HT Hg]
    · isplitl [HA HT]
      · iexists _; iexists _; isplitr
        · ipureintro; exact hk.first t hz ((isAcc_iff t).mpr (by omega)) a b hI
        isplitl [HA]
        · unfold owns; iexists _; isplitr
          swap; · iexact HA
          ipureintro; exact runFirst_acc c _ _ _ _ _ _ _ _ _ _ _ _ _ _ _ _ _ _ _ _ _ _ _ _ _ _
        unfold owns; iexists _; isplitr
        swap; · iexact HT
        ipureintro; exact runFirst_t1 c _ _ _ _ _ _ _ _ _ _ _ _ _ _ _ _ _ _ _ _ _ _ _ _ _
      iexact Hg
    isplitl [Ho]; · iexact Ho
    isplitl [H0]; · iexact H0
    isplitl [H1]; · iexact H1
    isplitl [H2]; · iexact H2
    isplitl [H3]; · iexact H3
    iexists _; iexact H4
  · have hn : ¬isOut (grid0.coords t) := fun h => absurd ((isOut_iff t).mp h) (by omega)
    rw [Dat.leavesExact_idle (dats m Inv G 0 c) 4 t (out_idle t hn) (out_noFlush t hn)]
    iintro ⟨⟨⟨%a, %b, %hI, HA, HT⟩, Hg⟩, Ho, ⟨%d0, H0⟩, ⟨%d1, H1⟩, ⟨%d2, H2⟩, ⟨%d3, H3⟩, ⟨%d4, H4⟩⟩
    iapply ((runAcc c (grid0.coords t) _ _ _ _ _ _ _ _ _ _ _ _ _ _ (fun h => absurd ((isFirst_iff t).mp h) (by omega)) ((isAcc_iff t).mpr (by omega)) (fun h => absurd ((isMid_iff t).mp h) (by omega)) (fun h => absurd ((isOut_iff t).mp h) (by omega)) (iblk m c 0 t) (iblk m c 1 t) (iblk m c 2 t) (iblk m c 3 t) a b).2.2 _ Set.univ _)
    isplitl [H0]; · iexact H0
    isplitl [H1]; · iexact H1
    isplitl [H2]; · iexact H2
    isplitl [H3]; · iexact H3
    isplitl [H4]; · iexact H4
    isplitl [HA]; · iexact HA
    isplitl [HT]; · iexact HT
    iintro ⟨H0, H1, H2, H3, H4, ⟨%ea, HA⟩, HT⟩
    isplitl [HA HT Hg]
    · isplitl [HA HT]
      · iexists _; iexists _; isplitr
        · ipureintro; exact hk.acc t hz.1 hz.2 ((isAcc_iff t).mpr (by omega)) a b hI
        isplitl [HA]
        · unfold owns; iexists _; isplitr
          swap; · iexact HA
          ipureintro; exact runAcc_acc c _ _ _ _ _ _ _ _ _ _ _ _ _ _ _ _ _ _ _ _ _ _ _ _ _ _
        unfold owns; iexists _; isplitr
        swap; · iexact HT
        ipureintro; exact runAcc_t1 c _ _ _ _ _ _ _ _ _ _ _ _ _ _ _ _ _ _ _ _ _ _ _ _ _
      iexact Hg
    isplitl [Ho]; · iexact Ho
    isplitl [H0]; · iexact H0
    isplitl [H1]; · iexact H1
    isplitl [H2]; · iexact H2
    isplitl [H3]; · iexact H3
    iexists _; iexact H4
  · have hn : ¬isOut (grid0.coords t) := fun h => absurd ((isOut_iff t).mp h) (by omega)
    rw [Dat.leavesExact_idle (dats m Inv G 0 c) 4 t (out_idle t hn) (out_noFlush t hn)]
    iintro ⟨⟨⟨%a, %b, %hI, HA, HT⟩, Hg⟩, Ho, ⟨%d0, H0⟩, ⟨%d1, H1⟩, ⟨%d2, H2⟩, ⟨%d3, H3⟩, ⟨%d4, H4⟩⟩
    iapply ((runMid c (grid0.coords t) _ _ _ _ _ _ _ _ _ _ _ _ _ _ (fun h => absurd ((isFirst_iff t).mp h) (by omega)) (fun h => absurd ((isAcc_iff t).mp h) (by omega)) ((isMid_iff t).mpr (by omega)) (fun h => absurd ((isOut_iff t).mp h) (by omega)) (iblk m c 0 t) (iblk m c 1 t) (iblk m c 2 t) (iblk m c 3 t) a b).2 _ Set.univ _)
    isplitl [H0]; · iexact H0
    isplitl [H1]; · iexact H1
    isplitl [H2]; · iexact H2
    isplitl [H3]; · iexact H3
    isplitl [H4]; · iexact H4
    isplitl [HA]; · iexact HA
    isplitl [HT]; · iexact HT
    iintro ⟨H0, H1, H2, H3, H4, HA, HT⟩
    isplitl [HA HT Hg]
    · isplitl [HA HT]
      · iexists _; iexists _; isplitr
        · ipureintro; exact hk.mid t hz a b hI
        isplitl [HA]
        · unfold owns; iexists _; isplitr
          swap; · iexact HA
          ipureintro; exact runMid_acc c _ _ _ _ _ _ _ _ _ _ _ _ _ _ _ _ _ _ _ _ _ _ _ _ _
        iexact HT
      iexact Hg
    isplitl [Ho]; · iexact Ho
    isplitl [H0]; · iexact H0
    isplitl [H1]; · iexact H1
    isplitl [H2]; · iexact H2
    isplitl [H3]; · iexact H3
    iexists _; iexact H4
  · have ho : isOut (grid0.coords t) := (isOut_iff t).mpr (by omega)
    rw [leaves4 m Inv G c t ho]
    iintro ⟨⟨⟨%a, %b, %hI, HA, HT⟩, Hg⟩, Ho, ⟨%d0, H0⟩, ⟨%d1, H1⟩, ⟨%d2, H2⟩, ⟨%d3, H3⟩, ⟨%d4, H4⟩⟩
    iapply ((runOut c (grid0.coords t) _ _ _ _ _ _ _ _ _ _ _ _ _ _ (fun h => absurd ((isFirst_iff t).mp h) (by omega)) (fun h => absurd ((isAcc_iff t).mp h) (by omega)) (fun h => absurd ((isMid_iff t).mp h) (by omega)) ((isOut_iff t).mpr (by omega)) (iblk m c 0 t) (iblk m c 1 t) (iblk m c 2 t) (iblk m c 3 t) a b).2 Set.univ _)
    isplitl [H0]; · iexact H0
    isplitl [H1]; · iexact H1
    isplitl [H2]; · iexact H2
    isplitl [H3]; · iexact H3
    isplitl [H4]; · iexists _; iexact H4
    isplitl [HA]; · iexact HA
    isplitl [HT]; · iexact HT
    iintro ⟨H0, H1, H2, H3, ⟨%e4, H4⟩, HA, HT⟩
    isplitl [HA HT Hg]
    · isplitl [HA HT]
      · iexists _; iexists _; isplitr
        · ipureintro; exact (hk.out t hz ho a b hI).1
        isplitl [HA]
        · iexact HA
        iexact HT
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact (runOut_out c _ _ _ _ _ _ _ _ _ _ _ _ _ _ _ _ _ _ _ _ _ _ _ _ _ _).trans (hk.out t hz ho a b hI).2

/-- The library's obligation at every point. -/
theorem body_obligation (c : Dev nD) (hk : Keeps m Inv G c) :
    BodyObligation (dats (F := F) m Inv G 0 c) (defs₀ (F := F)) Variants.none () Set.univ := fun t => by
  rw [bigSep_W0, bigSep_W0, body_row]
  exact triple_restated (sound_body m c hk t) rfl .rfl fun _ => .rfl

/-- At the launch the scratch buffers hold anything, which the invariant allows. -/
theorem inv_in (c : Dev nD) (hk : Keeps m Inv G c) : Pipeline.ΦA spec0 c ⊢ (dats m Inv G 0 c).Φ 0 := by
  rw [show (dats m Inv G 0 c).Φ 0 = PhiI Inv c 0 from rfl, launch_inv_eq]
  unfold PhiI
  iintro ⟨⟨⟨%a, HA⟩, ⟨%b, HT⟩⟩, Hg⟩
  isplitl [HA HT]
  · iexists a; iexists b; isplitr
    · ipureintro; exact hk.start a b
    isplitl [HA]; · iexact HA
    iexact HT
  iexact Hg

/-- After the last point their contents are forgotten. -/
theorem inv_out (c : Dev nD) : (dats m Inv G 0 c).Φ (Fin.last cfg0.N) ⊢ Pipeline.ΦA spec0 c := by
  rw [show (dats m Inv G 0 c).Φ (Fin.last cfg0.N) = PhiI Inv c cfg0.N from rfl, launch_inv_eq]
  unfold PhiI
  iintro ⟨⟨%a, %b, %hI, HA, HT⟩, Hg⟩
  isplitl [HA HT]
  · isplitl [HA]; · iexists _; iexact HA
    iexists _; iexact HT
  iexact Hg

set_option backward.isDefEq.respectTransparency.types false in
set_option maxHeartbeats 800000 in
/-- The run: each array of the pipeline ends at what the proof data computes, every semaphore at zero. -/
theorem run_main (hk : ∀ c, Keeps m Inv G c) : θ_run defs (onTc (τ := τ) (main (F := F))) (s₀ m ρ)
    (fun r => Pipeline.FramePost cfgs (dats m Inv G) 0 (V m) r ∧ r.2.sem = fun _ => 0) :=
  Pipeline.θ_run_frame_track (Q' := _) cfgs (dats m Inv G) (0 : Fin 1) launch0 defs₀ Variants.none m ρ main
    (hbody := fun c => (body_obligation m c (hk c)).loose) (hshare := fun c => (dats m Inv G 0 c).share_full fun _ => rfl)
    (howed := fun _ _ => rfl) (V := V m) (hmain := hmain m Variants.none) (hA := dats_A m Inv G)
    (hin := fun c => inv_in m c (hk c)) (hout := inv_out m)

end Cert.KernelIdeal.Own

end
-- ==== Proof.Blocks.lean ====
/- The input blocks of the pipeline read at coordinates, in terms of the launched arguments. -/
module

public import proofs.«01_k».proof.Proof.LaunchIdeal
public import Idealize.ShloMosaic.Lib.ValueIdx
public import Idealize.ShloMosaic.Lib.ValueLayout
public import Idealize.ShloMosaic.Lib.Pipeline.ValueKit

@[expose] public section

set_option maxRecDepth 16384

noncomputable section

namespace Cert.KernelIdeal.Own

open Cert.KernelIdeal Cert.KernelIdeal.Gen
open Idealize.ShloMosaic hiding ix0 ix1 ix2 ix3
open Idealize.ShloMosaic.TcCoe Idealize.ShloMosaic.ValueIdx
open Idealize.ShloMosaic.Pipeline Idealize.ShloMosaic.StableHlo

variable (m : (ℓ : Loc nD τ sig) → Buf (Elt Ideal) ℓ) (c : Dev nD)

/-- The launched arguments. -/
abbrev argX : S4096x128.Idx → EReal := m ((c : Thread nD τ).loc main_arg0)
abbrev argS : S4x4096x4096.Idx → EReal := m ((c : Thread nD τ).loc main_arg1)
abbrev argK : S4x128x4096.Idx → EReal := m ((c : Thread nD τ).loc main_arg2)
abbrev argB : S4096.Idx → EReal := m ((c : Thread nD τ).loc main_arg3)

/-- The arrays the host operations before the region write. -/
theorem V_rows : V m c main_v0 = shapeCast S16384x4096 (argS m c) shapeCasts_S4x4096x4096_S16384x4096 := by
  unfold V; dsimp only [hostOps0]; after_results; rfl
theorem V_bias : V m c main_v1 = shapeCast S1x4096 (argB m c) shapeCasts_S4096_S1x4096 := by
  unfold V; dsimp only [hostOps0]; after_results; rfl
theorem V_x : V m c main_v2 = argX m c := by
  unfold V; dsimp only [hostOps0]; after_results; rfl

/-- There are 25 points. -/
theorem lt25 (t : Fin cfg0.N) : t.val < 25 := lt_of_lt_of_eq t.isLt N_0

/-- Where each window's block lies at each point. -/
theorem index0 : ∀ t : Fin cfg0.N, win0_0.index t = ![0, 0, min t.val 15] := (by decide +kernel : ∀ t : Fin grid0.N, _)
theorem index1 : ∀ t : Fin cfg0.N, win0_1.index t = ![16 + min t.val 15, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, t.val - 17] := (by decide +kernel : ∀ t : Fin grid0.N, _)
theorem index4 : ∀ t : Fin cfg0.N, win0_4.index t = ![0, t.val - 17] := (by decide +kernel : ∀ t : Fin grid0.N, _)

/-- Window 0 holds the 256 columns of every coefficient matrix that belong to the point. -/
theorem iblk0_apply (t : Fin cfg0.N) (ht : t.val < 16) (k : Fin 4) (r : Fin 128) (p : Fin 256) :
    iblk m c 0 t (ix3 k r p) = argK m c (ix3 k r ⟨256 * t.val + p.val, by omega⟩) := by
  blk_simp [iblk]
  rw [V_main_arg2]
  refine congrArg (argK m c) (funext fun a => Fin.ext ?_)
  have e := index0 t
  match a with
  | ⟨0, _⟩ => blk_simp [e]
  | ⟨1, _⟩ => blk_simp [e]
  | ⟨2, _⟩ => blk_simp; rw [e]; show min t.val 15 * 256 + p.val = 256 * t.val + p.val; omega

/-- Window 1 holds the 256 rows of the second support that belong to the point. -/
theorem iblk1_apply (t : Fin cfg0.N) (ht : t.val < 16) (p : Fin 256) (q : Fin 4096) :
    iblk m c 1 t (ix2 p q) = argS m c (ix3 1 ⟨256 * t.val + p.val, by omega⟩ q) := by
  blk_simp [iblk]
  rw [V_rows]
  refine shapeCast_apply _ _ _ _ ?_
  have e := index1 t
  have e0 : (((win0_1.blk t).view.emb (ix2 p q)) 0 : ℕ) = 256 * (16 + t.val) + p.val := by
    blk_simp; rw [e]; show (16 + min t.val 15) * 256 + p.val = _; omega
  have e1 : (((win0_1.blk t).view.emb (ix2 p q)) 1 : ℕ) = q.val := by
    blk_simp; rw [e]; show 0 * 4096 + q.val = _; omega
  refine (Shape.rowMajor_val_three _).trans (Eq.trans ?_ (Shape.rowMajor_val_two _).symm)
  refine Eq.trans ?_ (congrArg₂ (fun a b : ℕ => a * 4096 + b) e0 e1).symm
  show (1 * 4096 + (256 * t.val + p.val)) * 4096 + q.val = _
  omega

/-- Window 2 holds the whole of the first argument. -/
theorem iblk2_apply (t : Fin cfg0.N) (n : Fin 4096) (r : Fin 128) :
    iblk m c 2 t (ix2 n r) = argX m c (ix2 n r) := by
  blk_simp [iblk]
  rw [V_x]
  refine congrArg (argX m c) (funext fun a => Fin.ext ?_)
  have e := index2 t
  match a with
  | ⟨0, _⟩ => blk_simp [e]
  | ⟨1, _⟩ => blk_simp [e]

/-- Window 3 holds the 512 biases that belong to the point. -/
theorem iblk3_apply (t : Fin cfg0.N) (ht : 16 < t.val) (z : Fin 1) (q : Fin 512) :
    iblk m c 3 t (ix2 z q) = argB m c (ix1 ⟨512 * (t.val - 17) + q.val, by have := lt25 t; omega⟩) := by
  blk_simp [iblk]
  rw [V_bias]
  refine shapeCast_apply _ _ _ _ ?_
  have e := index3 t
  have e0 : (((win0_3.blk t).view.emb (ix2 z q)) 0 : ℕ) = 0 := by
    blk_simp; rw [e]; rfl
  have e1 : (((win0_3.blk t).view.emb (ix2 z q)) 1 : ℕ) = 512 * (t.val - 17) + q.val := by
    blk_simp; rw [e]; show (t.val - 17) * 512 + q.val = _; omega
  refine (Shape.rowMajor_val_one _).trans (Eq.trans ?_ (Shape.rowMajor_val_two _).symm)
  refine Eq.trans ?_ (congrArg₂ (fun a b : ℕ => a * 4096 + b) e0 e1).symm
  show 512 * (t.val - 17) + q.val = _
  omega

end Cert.KernelIdeal.Own

end
-- ==== Proof.Payloads.lean ====
/- The kernel body's pieces of arithmetic at the exact instance, read at an index. -/
module

public import proofs.«01_k».proof.Proof.Steps
public import Idealize.ShloMosaic.Lib.ValueIdx
public import Idealize.ShloMosaic.Lib.ValueLayout
public import Idealize.ShloMosaic.Lib.Pipeline.ValueKit
public import Idealize.ShloMosaic.Lib.MatmulPlain
public import Idealize.ShloMosaic.Lib.IdealHost
public import Idealize.ShloMosaic.PureOps.Ideal.Laws

@[expose] public section

set_option maxRecDepth 16384

noncomputable section

namespace Cert.KernelIdeal.Own

open Cert.KernelIdeal Cert.KernelIdeal.Gen Cert.Own
open Idealize.ShloMosaic hiding ix0 ix1 ix2 ix3
open Idealize.ShloMosaic.ValueIdx

/-- The literals the body uses. -/
theorem lit_zero : Ideal.ofBits .f32 0x00000000#32 = 0 := by simp [Ideal.ofBits, Ideal.ieee]
theorem lit_two : Ideal.ofBits .f32 0x40000000#32 = ((2 : ℝ) : EReal) := by
  simp [Ideal.ofBits, Ideal.ieee, -EReal.coe_mul]; norm_num
theorem lit_half : Ideal.ofBits .f32 0x3F000000#32 = (((1 : ℝ) / 2 : ℝ) : EReal) := by
  simp [Ideal.ofBits, Ideal.ieee, -EReal.coe_mul]; norm_num

/-- The four products of the body are plain matrix products. -/
theorem dotA_eq : dot_S256x256_S256x4096_S256x4096_1_0_0_1_n_n = DotDims.plain 256 256 4096 := rfl
theorem dotB_eq : dot_S128x4096_S4096x4096_S128x4096_1_0_0_1_n_n = DotDims.plain 128 4096 4096 := rfl
theorem dotC_eq : dot_S128x4096_S4096x512_S128x512_1_0_0_1_n_n = DotDims.plain 128 4096 512 := rfl
theorem dotD_eq : dot_S4096x128_S128x512_S4096x512_1_0_0_1_n_n = DotDims.plain 4096 128 512 := rfl

variable (K0 K1 K2 K3 : Vec Ideal S1x128x256 .f32) (S a : Vec Ideal S256x4096 .f32)

/-- The cleared accumulator is zero. -/
theorem pay1_apply (y) : (k0_pay1 (F := Ideal)) y = 0 := by
  unfold k0_pay1
  simp only [shapeCast_self]
  exact lit_zero

/-- The second scratch buffer receives the rows unchanged. -/
theorem pay3_eq : k0_pay3 (F := Ideal) S = S := by
  unfold k0_pay3
  simp only [shapeCast_self]
  rfl

/-- Upper rows of the accumulated product. -/
theorem pay8_top (r : Fin 128) (q : Fin 4096) :
    k0_pay8 (F := Ideal) K1 K3 a S (ix2 ⟨r.val, by omega⟩ q)
      = a (ix2 ⟨r.val, by omega⟩ q) + ∑ p : Fin 256, (K1 (ix3 (0 : Fin 1) r p) - K3 (ix3 (0 : Fin 1) r p)) * S (ix2 p q) := by
  unfold k0_pay8
  simp only [shapeCast_self, addf_apply, dotA_eq, matmul]
  rw [Ideal.matmul_plain_apply]
  simp only [constant_apply]
  rw [lit_zero, zero_add]
  refine congrArg _ (Finset.sum_congr rfl fun p _ => ?_)
  refine congrArg (· * S (ix2 p q)) ?_
  refine (concatenate_pair_apply_left (t := S256x256) (s₁ := S128x256) (s₂ := S128x256) 0 _ _ _ (ix2 ⟨r.val, by omega⟩ p) rfl (ix2 r p)
    (by intro b; match b with | ⟨0, _⟩ => rfl | ⟨1, _⟩ => rfl)).trans ?_
  simp only [subf_apply]
  rw [shapeCast_1ab_ab_apply, shapeCast_1ab_ab_apply]

/-- Lower rows of the accumulated product. -/
theorem pay8_low (r : Fin 128) (q : Fin 4096) :
    k0_pay8 (F := Ideal) K1 K3 a S (ix2 ⟨128 + r.val, by omega⟩ q)
      = a (ix2 ⟨128 + r.val, by omega⟩ q) + ∑ p : Fin 256, K3 (ix3 (0 : Fin 1) r p) * S (ix2 p q) := by
  unfold k0_pay8
  simp only [shapeCast_self, addf_apply, dotA_eq, matmul]
  rw [Ideal.matmul_plain_apply]
  simp only [constant_apply]
  rw [lit_zero, zero_add]
  refine congrArg _ (Finset.sum_congr rfl fun p _ => ?_)
  refine congrArg (· * S (ix2 p q)) ?_
  refine (concatenate_pair_apply_right (t := S256x256) (s₁ := S128x256) (s₂ := S128x256) 0 _ _ _ (ix2 ⟨128 + r.val, by omega⟩ p) rfl rfl (ix2 r p)
    (by intro b hb; match b with | ⟨0, _⟩ => exact absurd rfl hb | ⟨1, _⟩ => rfl)
    (by show r.val + 128 = 128 + r.val; omega)).trans ?_
  rw [shapeCast_1ab_ab_apply]

variable (u : Vec Ideal S128x256 .f32)

/-- A weight block is added. -/
theorem pay9_apply (r : Fin 128) (p : Fin 256) :
    k0_pay9 (F := Ideal) u K0 (ix2 r p) = u (ix2 r p) + K0 (ix3 (0 : Fin 1) r p) := by
  unfold k0_pay9
  simp only [shapeCast_self, addf_apply]
  rw [shapeCast_1ab_ab_apply]

/-- Half a weight block is added. -/
theorem pay10_apply (r : Fin 128) (p : Fin 256) :
    k0_pay2 (k0_pay10 (F := Ideal) u K2) (ix2 r p) = u (ix2 r p) + (((1 : ℝ) / 2 : ℝ) : EReal) * K2 (ix3 (0 : Fin 1) r p) := by
  unfold k0_pay2 k0_pay10
  simp only [shapeCast_self, addf_apply, mulf_apply, broadcast_apply]
  rw [shapeCast_1ab_ab_apply]
  exact congrArg (fun z => u (ix2 r p) + z * K2 (ix3 (0 : Fin 1) r p)) lit_half

variable (lo hi : Vec Ideal S128x4096 .f32) (b : Vec Ideal S4096x4096 .bf16)

/-- Twice the lower half is taken off the upper half. -/
theorem pay5_apply (r : Fin 128) (q : Fin 4096) :
    k0_pay5 (F := Ideal) lo hi (ix2 r q) = hi (ix2 r q) - ((2 : ℝ) : EReal) * lo (ix2 r q) := by
  unfold k0_pay5 k0_pay4
  simp only [shapeCast_self, subf_apply, mulf_apply, broadcast_apply]
  exact congrArg (fun z => hi (ix2 r q) - z * lo (ix2 r q)) lit_two

/-- Twice the lower half is multiplied by the second scratch buffer. -/
theorem pay6_apply (r : Fin 128) (q : Fin 4096) :
    k0_pay6 (F := Ideal) lo b (ix2 r q) = ∑ j : Fin 4096, (((2 : ℝ) : EReal) * lo (ix2 r j)) * b (ix2 j q) := by
  unfold k0_pay6 k0_pay4
  simp only [shapeCast_self, dotB_eq, matmul]
  rw [Ideal.matmul_plain_apply]
  simp only [constant_apply]
  rw [lit_zero, zero_add]
  refine Finset.sum_congr rfl fun j _ => ?_
  simp only [truncf_apply, mulf_apply, broadcast_apply]
  exact congrArg (fun z => (z * lo (ix2 r j)) * b (ix2 j q)) lit_two

variable (bs : Vec Ideal S4096x512 .bf16) (hs : Vec Ideal S128x512 .f32) (X : Vec Ideal S4096x128 .bf16) (B : Vec Ideal S1x512 .f32)

/-- The output block. -/
theorem pay7_apply (n : Fin 4096) (q : Fin 512) :
    k0_pay7 (F := Ideal) lo bs hs X B (ix2 n q)
      = (∑ r : Fin 128, X (ix2 n r) * (hs (ix2 r q) + ((2 : ℝ) : EReal) * ∑ j : Fin 4096, lo (ix2 r j) * bs (ix2 j q))) + B (ix2 (0 : Fin 1) q) := by
  unfold k0_pay7
  simp only [shapeCast_self, addf_apply, dotD_eq, dotC_eq, matmul]
  rw [Ideal.matmul_plain_apply]
  simp only [constant_apply]
  rw [lit_zero, zero_add]
  refine congrArg₂ (· + ·) (Finset.sum_congr rfl fun r _ => ?_) ?_
  · simp only [truncf_apply, addf_apply, mulf_apply, broadcast_apply]
    rw [Ideal.matmul_plain_apply]
    simp only [constant_apply, truncf_apply]
    rw [lit_zero, zero_add]
    exact congrArg (fun z => X (ix2 n r) * (hs (ix2 r q) + z * ∑ j : Fin 4096, lo (ix2 r j) * bs (ix2 j q))) lit_two
  · refine broadcastTo_apply _ _ _ _ ?_
    intro z; match z with | ⟨0, _⟩ => rfl | ⟨1, _⟩ => rfl

end Cert.KernelIdeal.Own

end
-- ==== Proof.Values.lean ====
/- What the scratch buffers hold after every point when the arguments are finite, and the kernel's result as a real expression. -/
module

public import proofs.«01_k».proof.Proof.Blocks
public import proofs.«01_k».proof.Proof.Payloads

@[expose] public section

set_option maxRecDepth 16384

noncomputable section

namespace Cert.KernelIdeal.Own

open Cert.KernelIdeal Cert.KernelIdeal.Gen Cert.Own
open Idealize.ShloMosaic hiding ix0 ix1 ix2 ix3
open Idealize.ShloMosaic.TcCoe Idealize.ShloMosaic.ValueIdx
open Idealize.ShloMosaic.Pipeline Idealize.ShloMosaic.StableHlo

/-- A finite sum of reals, taken in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The part of a sum over 4096 indices the first `t` blocks of 256 make. -/
def pre (f : Fin 4096 → ℝ) (t : ℕ) : ℝ := ∑ n ∈ Finset.range (256 * t), if h : n < 4096 then f ⟨n, h⟩ else 0

theorem pre_zero (f : Fin 4096 → ℝ) : pre f 0 = 0 := by simp [pre]

theorem pre_succ (f : Fin 4096 → ℝ) (t : ℕ) (ht : t < 16) :
    pre f (t + 1) = pre f t + ∑ p : Fin 256, f ⟨256 * t + p.val, by omega⟩ := by
  unfold pre
  rw [show 256 * (t + 1) = 256 * t + 256 by ring, Finset.sum_range_add, Finset.sum_range (n := 256)]
  refine congrArg _ (Finset.sum_congr rfl fun p _ => ?_)
  rw [dif_pos (show 256 * t + p.val < 4096 by omega)]

theorem pre_full (f : Fin 4096 → ℝ) : pre f 16 = ∑ j : Fin 4096, f j := by
  unfold pre
  rw [show 256 * 16 = 4096 by norm_num, Finset.sum_range]
  exact Finset.sum_congr rfl fun p _ => dif_pos p.isLt

/-- Row `r` of the upper and of the lower half of the accumulator. -/
abbrev hiRow (r : Fin 128) : Fin 256 := ⟨r.val, by omega⟩
abbrev loRow (r : Fin 128) : Fin 256 := ⟨128 + r.val, by omega⟩

variable (Kr : Fin 4 → Fin 128 → Fin 4096 → ℝ) (Sr : Fin 4096 → Fin 4096 → ℝ)

/-- The upper half of the accumulator after `t` accumulating points. -/
def top (t : ℕ) (r : Fin 128) (q : Fin 4096) : ℝ :=
  pre (fun j => (Kr 1 r j - Kr 3 r j) * Sr j q) t + if q.val < 256 * t then Kr 0 r q else 0
/-- The lower half of the accumulator after `t` accumulating points. -/
def low (t : ℕ) (r : Fin 128) (q : Fin 4096) : ℝ :=
  pre (fun j => Kr 3 r j * Sr j q) t + if q.val < 256 * t then 1 / 2 * Kr 2 r q else 0

/-- The state after `t` accumulating points. -/
structure AccInv (t : ℕ) (a : Vec Ideal S256x4096 .f32) (b : Vec Ideal S4096x4096 .bf16) : Prop where
  hi : ∀ r q, a (ix2 (hiRow r) q) = ((top Kr Sr t r q : ℝ) : EReal)
  lo : ∀ r q, a (ix2 (loRow r) q) = ((low Kr Sr t r q : ℝ) : EReal)
  rows : ∀ j q : Fin 4096, j.val < 256 * t → b (ix2 j q) = ((Sr j q : ℝ) : EReal)

/-- The cleared accumulator is the state before the first point. -/
theorem accInv_zero (b) : AccInv Kr Sr 0 (k0_pay1 (F := Ideal)) b where
  hi r q := by rw [pay1_apply]; simp [top, pre_zero]
  lo r q := by rw [pay1_apply]; simp [low, pre_zero]
  rows j q h := absurd h (by omega)

/-- A member of the weight block at an index. -/
theorem kpart_apply (p : ℕ) (hp : p < 4) (inb) (K : Vec Ideal S4x128x256 .f32) (r : Fin 128) (x : Fin 256) :
    kpart p inb K (ix3 (0 : Fin 1) r x) = K (ix3 ⟨p, hp⟩ r x) := by
  unfold kpart
  refine View.ld_unit_apply_of _ _ _ _ _ _ ?_
  intro a
  match a with
  | ⟨0, _⟩ => rfl
  | ⟨1, _⟩ => exact (Nat.zero_add _).symm
  | ⟨2, _⟩ => exact (Nat.zero_add _).symm

/-- An index inside the columns of point `t`. -/
theorem in_bound {t : ℕ} (ht : t < 16) (p : Fin 256) : 256 * t + p.val < 4096 := by omega
theorem in_block {t : ℕ} (ht : t < 16) (q : Fin 4096) (h1 : 256 * t ≤ q.val) (h2 : q.val < 256 * t + 256) :
    ∃ p : Fin 256, q = ⟨256 * t + p.val, in_bound ht p⟩ :=
  ⟨⟨q.val - 256 * t, by omega⟩, Fin.ext (by simp; omega)⟩

section Acc
variable {t : ℕ} (ht : t < 16) {K : Vec Ideal S4x128x256 .f32} {S a : Vec Ideal S256x4096 .f32} {b : Vec Ideal S4096x4096 .bf16}
  (hK : ∀ k r (p : Fin 256), K (ix3 k r p) = ((Kr k r ⟨256 * t + p.val, by omega⟩ : ℝ) : EReal))
  (hS : ∀ (p : Fin 256) q, S (ix2 p q) = ((Sr ⟨256 * t + p.val, by omega⟩ q : ℝ) : EReal))
  (hI : AccInv Kr Sr t a b)

include hK hS hI in
/-- The upper half with the product added. -/
theorem accA_hi (r : Fin 128) (q : Fin 4096) :
    accA K S a (ix2 (hiRow r) q) = ((pre (fun j => (Kr 1 r j - Kr 3 r j) * Sr j q) (t + 1)
      + (if q.val < 256 * t then Kr 0 r q else 0) : ℝ) : EReal) := by
  unfold accA
  rw [pay8_top, hI.hi, pre_succ _ _ ht, top]
  have e : ∀ p : Fin 256, (kpart 1 inb_S4x128x256_S1x128x256_1_0_0 K (ix3 (0 : Fin 1) r p)
      - kpart 3 inb_S4x128x256_S1x128x256_3_0_0 K (ix3 (0 : Fin 1) r p)) * S (ix2 p q)
      = (((Kr 1 r ⟨256 * t + p.val, by omega⟩ - Kr 3 r ⟨256 * t + p.val, by omega⟩) * Sr ⟨256 * t + p.val, by omega⟩ q : ℝ) : EReal) := by
    intro p
    rw [kpart_apply 1 (by omega), kpart_apply 3 (by omega), hK, hK, hS, ← EReal.coe_sub, ← EReal.coe_mul]; rfl
  rw [Finset.sum_congr rfl fun p _ => e p, coe_sum, ← EReal.coe_add]
  congr 1
  ring

include hK hS hI in
/-- The lower half with the product added. -/
theorem accA_lo (r : Fin 128) (q : Fin 4096) :
    accA K S a (ix2 (loRow r) q) = ((pre (fun j => Kr 3 r j * Sr j q) (t + 1)
      + (if q.val < 256 * t then 1 / 2 * Kr 2 r q else 0) : ℝ) : EReal) := by
  unfold accA
  rw [pay8_low, hI.lo, pre_succ _ _ ht, low]
  have e : ∀ p : Fin 256, kpart 3 inb_S4x128x256_S1x128x256_3_0_0 K (ix3 (0 : Fin 1) r p) * S (ix2 p q)
      = ((Kr 3 r ⟨256 * t + p.val, by omega⟩ * Sr ⟨256 * t + p.val, by omega⟩ q : ℝ) : EReal) := by
    intro p
    rw [kpart_apply 3 (by omega), hK, hS, ← EReal.coe_mul]; rfl
  rw [Finset.sum_congr rfl fun p _ => e p, coe_sum, ← EReal.coe_add]
  congr 1
  ring

variable {i : grid0.Coords} (h : isAcc i) (h1 : k0_off1 i = ![0, 256 * t]) (h2 : k0_off2 i = ![128, 256 * t]) (h3 : k0_off3 i = ![256 * t, 0])

include ht h1 in
/-- The first weight block goes into its own columns of the upper half. -/
theorem accB_hi_in (A : Vec Ideal S256x4096 .f32) (r : Fin 128) (p : Fin 256) :
    accB i h K A (ix2 (hiRow r) ⟨256 * t + p.val, by omega⟩)
      = A (ix2 (hiRow r) ⟨256 * t + p.val, by omega⟩) + K (ix3 0 r p) := by
  unfold accB
  refine (overlay_hit _ _ _ _ _ _ (ix2 r p) ?_).trans ?_
  · intro x; rw [congrFun h1 x]
    match x with
    | ⟨0, _⟩ => exact (Nat.zero_add _).symm
    | ⟨1, _⟩ => rfl
  · refine (pay9_apply _ _ _ _).trans ?_
    rw [kpart_apply 0 (by omega)]
    refine congrArg (· + K (ix3 0 r p)) ?_
    refine View.ld_unit_apply_of _ _ _ _ _ _ ?_
    intro x; rw [congrFun h1 x]
    match x with
    | ⟨0, _⟩ => exact (Nat.zero_add _).symm
    | ⟨1, _⟩ => rfl

include h1 in
/-- Other columns of the upper half stay. -/
theorem accB_out (A : Vec Ideal S256x4096 .f32) (R : Fin 256) (q : Fin 4096)
    (hq : 128 ≤ R.val ∨ q.val < 256 * t ∨ 256 * t + 256 ≤ q.val) : accB i h K A (ix2 R q) = A (ix2 R q) := by
  unfold accB
  refine overlay_miss _ _ _ _ _ _ ?_
  rw [h1]
  rcases hq with hq | hq | hq
  · exact ⟨(0 : Fin 2), Or.inr (show 0 + 128 ≤ R.val by omega)⟩
  · exact ⟨(1 : Fin 2), Or.inl hq⟩
  · exact ⟨(1 : Fin 2), Or.inr hq⟩

include ht h2 in
/-- Half the third weight block goes into its own columns of the lower half. -/
theorem accC_lo_in (A : Vec Ideal S256x4096 .f32) (r : Fin 128) (p : Fin 256) :
    accC i h K A (ix2 (loRow r) ⟨256 * t + p.val, by omega⟩)
      = A (ix2 (loRow r) ⟨256 * t + p.val, by omega⟩) + (((1 : ℝ) / 2 : ℝ) : EReal) * K (ix3 2 r p) := by
  unfold accC
  refine (overlay_hit _ _ _ _ _ _ (ix2 r p) ?_).trans ?_
  · intro x; rw [congrFun h2 x]
    match x with
    | ⟨0, _⟩ => rfl
    | ⟨1, _⟩ => rfl
  · refine (pay10_apply _ _ _ _).trans ?_
    rw [kpart_apply 2 (by omega)]
    refine congrArg (· + (((1 : ℝ) / 2 : ℝ) : EReal) * K (ix3 2 r p)) ?_
    refine View.ld_unit_apply_of _ _ _ _ _ _ ?_
    intro x; rw [congrFun h2 x]
    match x with
    | ⟨0, _⟩ => rfl
    | ⟨1, _⟩ => rfl

include h2 in
/-- Other columns of the lower half stay. -/
theorem accC_out (A : Vec Ideal S256x4096 .f32) (R : Fin 256) (q : Fin 4096)
    (hq : R.val < 128 ∨ q.val < 256 * t ∨ 256 * t + 256 ≤ q.val) : accC i h K A (ix2 R q) = A (ix2 R q) := by
  unfold accC
  refine overlay_miss _ _ _ _ _ _ ?_
  rw [h2]
  rcases hq with hq | hq | hq
  · exact ⟨(0 : Fin 2), Or.inl hq⟩
  · exact ⟨(1 : Fin 2), Or.inl hq⟩
  · exact ⟨(1 : Fin 2), Or.inr hq⟩

include hK hS hI h1 h2 h3 in
/-- One accumulating point takes the state after `t` points to the state after `t + 1`. -/
theorem accInv_succ : AccInv Kr Sr (t + 1) (accStep i h K S a) (t1Step i h S b) where
  hi r q := by
    unfold accStep
    rw [accC_out h h2 _ _ _ (Or.inl r.isLt)]
    by_cases hq : 256 * t ≤ q.val ∧ q.val < 256 * t + 256
    · obtain ⟨p, rfl⟩ : ∃ p : Fin 256, q = ⟨256 * t + p.val, in_bound ht p⟩ := in_block ht q hq.1 hq.2
      rw [accB_hi_in ht h h1, accA_hi Kr Sr ht hK hS hI, hK, ← EReal.coe_add, top]
      rw [if_neg (by simp), if_pos (by simp; omega), add_zero]
    · rw [accB_out h h1 _ _ _ (by omega), accA_hi Kr Sr ht hK hS hI, top]
      by_cases hl : q.val < 256 * t
      · rw [if_pos hl, if_pos (by omega)]
      · rw [if_neg hl, if_neg (by omega)]
  lo r q := by
    unfold accStep
    by_cases hq : 256 * t ≤ q.val ∧ q.val < 256 * t + 256
    · obtain ⟨p, rfl⟩ : ∃ p : Fin 256, q = ⟨256 * t + p.val, in_bound ht p⟩ := in_block ht q hq.1 hq.2
      rw [accC_lo_in ht h h2, accB_out h h1 _ _ _ (Or.inl (by simp)), accA_lo Kr Sr ht hK hS hI, hK, ← EReal.coe_mul, ← EReal.coe_add, low]
      rw [if_neg (by simp), if_pos (by simp; omega), add_zero]
    · rw [accC_out h h2 _ _ _ (by omega), accB_out h h1 _ _ _ (Or.inl (by simp)), accA_lo Kr Sr ht hK hS hI, low]
      by_cases hl : q.val < 256 * t
      · rw [if_pos hl, if_pos (by omega)]
      · rw [if_neg hl, if_neg (by omega)]
  rows j q hj := by
    unfold t1Step
    by_cases hl : j.val < 256 * t
    · refine (overlay_miss _ _ _ _ _ _ ?_).trans (hI.rows j q hl)
      rw [h3]
      exact ⟨(0 : Fin 2), Or.inl (show j.val < 256 * t from hl)⟩
    · obtain ⟨p, rfl⟩ : ∃ p : Fin 256, j = ⟨256 * t + p.val, in_bound ht p⟩ := in_block ht j (by omega) (by omega)
      refine (overlay_hit _ _ _ _ _ _ (ix2 p q) ?_).trans ?_
      · intro x; rw [congrFun h3 x]
        match x with
        | ⟨0, _⟩ => rfl
        | ⟨1, _⟩ => exact (Nat.zero_add _).symm
      · rw [pay3_eq]; exact hS p q

end Acc

/-- The matrix the combining point takes off the upper half. -/
def cmat (r : Fin 128) (q : Fin 4096) : ℝ := 2 * (∑ j, Kr 3 r j * Sr j q + 1 / 2 * Kr 2 r q)
/-- The upper half after the combining point. -/
def cHi (r : Fin 128) (q : Fin 4096) : ℝ := ∑ j, (Kr 1 r j - Kr 3 r j) * Sr j q + Kr 0 r q - cmat Kr Sr r q
/-- The lower half after the combining point. -/
def cLo (r : Fin 128) (q : Fin 4096) : ℝ := ∑ j, cmat Kr Sr r j * Sr j q

/-- The state from the combining point on. -/
structure FinInv (a : Vec Ideal S256x4096 .f32) (b : Vec Ideal S4096x4096 .bf16) : Prop where
  hi : ∀ r q, a (ix2 (hiRow r) q) = ((cHi Kr Sr r q : ℝ) : EReal)
  lo : ∀ r q, a (ix2 (loRow r) q) = ((cLo Kr Sr r q : ℝ) : EReal)
  rows : ∀ j q : Fin 4096, b (ix2 j q) = ((Sr j q : ℝ) : EReal)

/-- The halves of the accumulator at an index. -/
theorem ld_hi (a : Vec Ideal S256x4096 .f32) (r : Fin 128) (q : Fin 4096) : View.ld a rHi (ix2 r q) = a (ix2 (hiRow r) q) := by
  refine View.ld_unit_apply_of _ _ _ _ _ _ ?_
  intro x
  match x with
  | ⟨0, _⟩ => exact (Nat.zero_add _).symm
  | ⟨1, _⟩ => exact (Nat.zero_add _).symm
theorem ld_lo (a : Vec Ideal S256x4096 .f32) (r : Fin 128) (q : Fin 4096) : View.ld a rLo (ix2 r q) = a (ix2 (loRow r) q) := by
  refine View.ld_unit_apply_of _ _ _ _ _ _ ?_
  intro x
  match x with
  | ⟨0, _⟩ => rfl
  | ⟨1, _⟩ => exact (Nat.zero_add _).symm

/-- The halves after sixteen points. -/
theorem top_full (r : Fin 128) (q : Fin 4096) : top Kr Sr 16 r q = ∑ j, (Kr 1 r j - Kr 3 r j) * Sr j q + Kr 0 r q := by
  rw [top, pre_full, if_pos (by have := q.isLt; omega)]
theorem low_full (r : Fin 128) (q : Fin 4096) : 2 * low Kr Sr 16 r q = cmat Kr Sr r q := by
  rw [low, pre_full, if_pos (by have := q.isLt; omega), cmat]

/-- The combining point takes the accumulated state to the final one. -/
theorem finInv_mid {a b} (hI : AccInv Kr Sr 16 a b) : FinInv Kr Sr (midStep a b) b where
  hi r q := by
    unfold midStep
    refine (overlay_miss _ _ _ _ _ _ ⟨(0 : Fin 2), Or.inl r.isLt⟩).trans ?_
    refine (overlay_hit _ _ _ _ _ _ (ix2 r q) ?_).trans ?_
    · intro x
      match x with
      | ⟨0, _⟩ => exact (Nat.zero_add _).symm
      | ⟨1, _⟩ => exact (Nat.zero_add _).symm
    · refine (pay5_apply _ _ _ _).trans ?_
      rw [ld_hi, ld_lo, hI.hi, hI.lo, ← EReal.coe_mul, ← EReal.coe_sub, low_full, top_full, cHi]
  lo r q := by
    unfold midStep
    refine (overlay_hit _ _ _ _ _ _ (ix2 r q) ?_).trans ?_
    · intro x
      match x with
      | ⟨0, _⟩ => rfl
      | ⟨1, _⟩ => exact (Nat.zero_add _).symm
    · refine (pay6_apply _ _ _ _).trans ?_
      rw [cLo, ← coe_sum]
      refine Finset.sum_congr rfl fun j _ => ?_
      rw [ld_lo, hI.lo, hI.rows j q (by have := j.isLt; omega), ← EReal.coe_mul, ← EReal.coe_mul, low_full]
  rows j q := hI.rows j q (by have := j.isLt; omega)

variable (Xr : Fin 4096 → Fin 128 → ℝ)

/-- The result before the bias. -/
def kval (n q : Fin 4096) : ℝ := ∑ r : Fin 128, Xr n r * (cHi Kr Sr r q + 2 * ∑ j, cLo Kr Sr r j * Sr j q)

/-- The kernel's result. -/
def outArr (B : S4096.Idx → EReal) : S4096x4096.Idx → EReal :=
  fun i => ((kval Kr Sr Xr (i 0) (i 1) : ℝ) : EReal) + B (ix1 (i 1))

/-- An output point computes its block of the result. -/
theorem outStep_apply {i : grid0.Coords} (h : isOut i) {k : ℕ} (hk : k < 8) (h4 : k0_off4 i = ![0, 512 * k]) (h5 : k0_off5 i = ![0, 512 * k])
    {X : Vec Ideal S4096x128 .bf16} (hX : ∀ n r, X (ix2 n r) = ((Xr n r : ℝ) : EReal)) (B : Vec Ideal S1x512 .f32)
    {a b} (hI : FinInv Kr Sr a b) (n : Fin 4096) (q : Fin 512) :
    outStep i h X B a b (ix2 n q) = ((kval Kr Sr Xr n ⟨512 * k + q.val, by omega⟩ : ℝ) : EReal) + B (ix2 (0 : Fin 1) q) := by
  unfold outStep
  refine (pay7_apply _ _ _ _ _ _ _).trans ?_
  refine congrArg (· + B (ix2 (0 : Fin 1) q)) ?_
  rw [kval, ← coe_sum]
  refine Finset.sum_congr rfl fun r _ => ?_
  have e1 : View.ld a (Rect.unit (s := S256x4096) (k0_off5 i) S128x512.size (k0_off5_inb i h)) (ix2 r q) = a (ix2 (hiRow r) ⟨512 * k + q.val, by omega⟩) := by
    refine View.ld_unit_apply_of _ _ _ _ _ _ ?_
    intro x; rw [congrFun h5 x]
    match x with
    | ⟨0, _⟩ => exact (Nat.zero_add _).symm
    | ⟨1, _⟩ => rfl
  have e2 : ∀ j : Fin 4096, View.ld b (Rect.unit (s := S4096x4096) (k0_off4 i) S4096x512.size (k0_off4_inb i h)) (ix2 j q) = b (ix2 j ⟨512 * k + q.val, by omega⟩) := by
    intro j
    refine View.ld_unit_apply_of _ _ _ _ _ _ ?_
    intro x; rw [congrFun h4 x]
    match x with
    | ⟨0, _⟩ => exact (Nat.zero_add _).symm
    | ⟨1, _⟩ => rfl
  have e3 : ∀ j : Fin 4096, View.ld a rLo (ix2 r j) * View.ld b (Rect.unit (s := S4096x4096) (k0_off4 i) S4096x512.size (k0_off4_inb i h)) (ix2 j q)
      = ((cLo Kr Sr r j * Sr j ⟨512 * k + q.val, by omega⟩ : ℝ) : EReal) := by
    intro j
    rw [e2, ld_lo, hI.lo, hI.rows, ← EReal.coe_mul]
  rw [Finset.sum_congr rfl fun j _ => e3 j, coe_sum, e1, hI.hi, hX, ← EReal.coe_mul, ← EReal.coe_add, ← EReal.coe_mul]

/-- The offsets of the body's loads and stores at each point. -/
theorem off1 : ∀ t : Fin cfg0.N, t.val < 16 → k0_off1 (grid0.coords t) = ![0, 256 * t.val] := (by decide +kernel : ∀ t : Fin grid0.N, _)
theorem off2 : ∀ t : Fin cfg0.N, t.val < 16 → k0_off2 (grid0.coords t) = ![128, 256 * t.val] := (by decide +kernel : ∀ t : Fin grid0.N, _)
theorem off3 : ∀ t : Fin cfg0.N, t.val < 16 → k0_off3 (grid0.coords t) = ![256 * t.val, 0] := (by decide +kernel : ∀ t : Fin grid0.N, _)
theorem off4 : ∀ t : Fin cfg0.N, 16 < t.val → k0_off4 (grid0.coords t) = ![0, 512 * (t.val - 17)] := (by decide +kernel : ∀ t : Fin grid0.N, _)
theorem off5 : ∀ t : Fin cfg0.N, 16 < t.val → k0_off5 (grid0.coords t) = ![0, 512 * (t.val - 17)] := (by decide +kernel : ∀ t : Fin grid0.N, _)

/-- What the scratch buffers hold before point `t`. -/
def Inv (t : ℕ) (a : Vec Ideal S256x4096 .f32) (b : Vec Ideal S4096x4096 .bf16) : Prop :=
  if t = 0 then True else if t ≤ 16 then AccInv Kr Sr t a b else FinInv Kr Sr a b

variable (m : (ℓ : Loc nD τ sig) → Buf (Elt Ideal) ℓ) (c : Dev nD)

/-- The block of the result point `t` stores. -/
def outBlk (B : S4096.Idx → EReal) (t : Fin cfg0.N) : Vec Ideal S4096x512 .f32 :=
  ((cfg0.win 4).blk t).view.read (Elt Ideal) (outArr Kr Sr Xr B)

/-- It is the block of 512 columns that belongs to the point. -/
theorem outBlk_apply (B : S4096.Idx → EReal) (t : Fin cfg0.N) (ht : 16 < t.val) (n : Fin 4096) (q : Fin 512) :
    outBlk Kr Sr Xr B t (ix2 n q) = ((kval Kr Sr Xr n ⟨512 * (t.val - 17) + q.val, by have := lt25 t; omega⟩ : ℝ) : EReal)
      + B (ix1 ⟨512 * (t.val - 17) + q.val, by have := lt25 t; omega⟩) := by
  have e := index4 t
  have e0 : (((win0_4.blk t).view.emb (ix2 n q)) 0 : ℕ) = n.val := by
    blk_simp; rw [e]; show 0 * 4096 + n.val = _; omega
  have e1 : (((win0_4.blk t).view.emb (ix2 n q)) 1 : ℕ) = 512 * (t.val - 17) + q.val := by
    blk_simp; rw [e]; show (t.val - 17) * 512 + q.val = _; omega
  have e0' : ((win0_4.blk t).view.emb (ix2 n q)) 0 = n := Fin.ext e0
  have e1' : ((win0_4.blk t).view.emb (ix2 n q)) 1 = (⟨512 * (t.val - 17) + q.val, by have := lt25 t; omega⟩ : Fin 4096) := Fin.ext e1
  show ((kval Kr Sr Xr (((win0_4.blk t).view.emb (ix2 n q)) 0) (((win0_4.blk t).view.emb (ix2 n q)) 1) : ℝ) : EReal)
    + B (ix1 (((win0_4.blk t).view.emb (ix2 n q)) 1)) = _
  rw [e0', e1']

/-- The arguments are the coercions of real arrays. -/
structure IsReal : Prop where
  x : ∀ n r, argX m c (ix2 n r) = ((Xr n r : ℝ) : EReal)
  s : ∀ j q, argS m c (ix3 1 j q) = ((Sr j q : ℝ) : EReal)
  k : ∀ k r j, argK m c (ix3 k r j) = ((Kr k r j : ℝ) : EReal)

end Cert.KernelIdeal.Own

end
-- ==== Proof.KernelValue.lean ====
/- The run of the kernel program on finite arguments: its result, element by element. -/
module

public import proofs.«01_k».proof.Proof.Values

@[expose] public section

set_option maxRecDepth 16384

noncomputable section

namespace Cert.KernelIdeal.Own

open Cert.KernelIdeal Cert.KernelIdeal.Gen Cert.Own
open Idealize.ShloMosaic hiding ix0 ix1 ix2 ix3
open Idealize.ShloMosaic.TcCoe Idealize.ShloMosaic.ValueIdx
open Idealize.ShloMosaic.Pipeline Idealize.ShloMosaic.StableHlo
open Idealize.SL.Sem

variable (m : (ℓ : Loc nD τ sig) → Buf (Elt Ideal) ℓ) (ρ : Dev nD → PrngReg)

/-- The real numbers the finite arguments hold. -/
def kR (c : Dev nD) : Fin 4 → Fin 128 → Fin 4096 → ℝ := fun k r j => (argK m c (ix3 k r j)).toReal
def sR (c : Dev nD) : Fin 4096 → Fin 4096 → ℝ := fun j q => (argS m c (ix3 1 j q)).toReal
def xR (c : Dev nD) : Fin 4096 → Fin 128 → ℝ := fun n r => (argX m c (ix2 n r)).toReal

/-- The arguments the arithmetic touches are finite. -/
def Finite (c : Dev nD) : Prop := IsReal (kR m c) (sR m c) (xR m c) m c

/-- The invariant and the stored blocks, per device. -/
abbrev InvM (c : Dev nD) : ℕ → Vec Ideal S256x4096 .f32 → Vec Ideal S4096x4096 .bf16 → Prop := Inv (kR m c) (sR m c)
/-- The kernel's result, per device. -/
abbrev outM (c : Dev nD) : S4096x4096.Idx → EReal := outArr (kR m c) (sR m c) (xR m c) (argB m c)
abbrev blkM (c : Dev nD) (t : Fin cfg0.N) : Vec Ideal S4096x512 .f32 := outBlk (kR m c) (sR m c) (xR m c) (argB m c) t

/-- On finite arguments every point keeps the invariant. -/
theorem keeps (c : Dev nD) (h : Finite m c) : Keeps m (InvM m) (blkM m) c where
  start a b := by simp [InvM, Inv]
  first t ht hc a b _ := by
    have h0 := accInv_succ (kR m c) (sR m c) (t := t.val) (by omega)
      (K := iblk m c 0 t) (S := iblk m c 1 t) (a := k0_pay1 (F := Ideal)) (b := b)
      (fun k r p => (iblk0_apply m c t (by omega) k r p).trans (h.k _ _ _))
      (fun p q => (iblk1_apply m c t (by omega) p q).trans (h.s _ _)) (by rw [ht]; exact accInv_zero _ _ b)
      hc (off1 t (by omega)) (off2 t (by omega)) (off3 t (by omega))
    show Inv _ _ _ _ _
    rw [Inv, if_neg (by omega), if_pos (by omega)]
    exact h0
  acc t hz ht hc a b hI := by
    have hI' : Inv (kR m c) (sR m c) t.val a b := hI
    rw [Inv, if_neg hz, if_pos (by omega)] at hI'
    have h0 := accInv_succ (kR m c) (sR m c) (t := t.val) ht
      (K := iblk m c 0 t) (S := iblk m c 1 t) (a := a) (b := b)
      (fun k r p => (iblk0_apply m c t ht k r p).trans (h.k _ _ _))
      (fun p q => (iblk1_apply m c t ht p q).trans (h.s _ _)) hI'
      hc (off1 t ht) (off2 t ht) (off3 t ht)
    show Inv _ _ _ _ _
    rw [Inv, if_neg (by omega), if_pos (by omega)]
    exact h0
  mid t ht a b hI := by
    have hI' : Inv (kR m c) (sR m c) t.val a b := hI
    rw [Inv, if_neg (by omega), if_pos (by omega), ht] at hI'
    show Inv _ _ _ _ _
    rw [Inv, if_neg (by omega), if_neg (by omega)]
    exact finInv_mid _ _ hI'
  out t ht hc a b hI := by
    have hI' : Inv (kR m c) (sR m c) t.val a b := hI
    rw [Inv, if_neg (by omega), if_neg (by omega)] at hI'
    refine ⟨?_, ?_⟩
    · show Inv _ _ _ _ _
      rw [Inv, if_neg (by omega), if_neg (by omega)]
      exact hI'
    · have ht25 := lt25 t
      funext y
      obtain ⟨n, q, rfl⟩ : ∃ (n : Fin 4096) (q : Fin 512), y = ix2 n q := ⟨y 0, y 1, funext fun a => match a with | ⟨0, _⟩ => rfl | ⟨1, _⟩ => rfl⟩
      refine (outStep_apply (kR m c) (sR m c) (xR m c) hc (k := t.val - 17) (by omega) (off4 t ht) (off5 t ht)
        (fun n r => (iblk2_apply m c t n r).trans (h.x _ _)) _ hI' n q).trans ?_
      refine Eq.trans ?_ (outBlk_apply (kR m c) (sR m c) (xR m c) (argB m c) t ht n q).symm
      exact congrArg (_ + ·) (iblk3_apply m c t ht 0 q)

/-- The output window covers the result. -/
theorem out_covers : (cfg0.win 4).Covers := by decide +kernel

/-- The array the pipeline leaves is the kernel's result. -/
theorem arr_out (c : Dev nD) : (dats m (InvM m) (blkM m) 0 c).arrAt 4 (Fin.last cfg0.N) = outM m c :=
  Dat.arrAt_eq_of_covers (dats m (InvM m) (blkM m) 0 c) 4 (outM m c) out_covers (fun t ht y => by
    rw [after4]; rfl)

/-- The run of the kernel program. -/
theorem run_value (h : ∀ c, Finite m c) : θ_run defs (onTc (τ := τ) (main (F := Ideal))) ⟨m, fun _ => 0, ρ⟩ (fun r => ∀ c : Dev nD,
      r.2.mem ((c.tc : Thread nD τ).loc main_v3) = outM m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ hr c =>
      ⟨(FramePost.out_eq hr.1 c 4).trans (arr_out m c),
       (FramePost.rest_eq hr.1 c main_arg0 (Pipeline.mem_restRefs_of main_arg0 (by decide) (by decide))).trans (V_main_arg0 m c),
       (FramePost.rest_eq hr.1 c main_arg1 (Pipeline.mem_restRefs_of main_arg1 (by decide) (by decide))).trans (V_main_arg1 m c),
       (FramePost.in_eq hr.1 c 0 rfl).trans ((dats_A m (InvM m) (blkM m) c 0).trans (V_main_arg2 m c)),
       (FramePost.rest_eq hr.1 c main_arg3 (Pipeline.mem_restRefs_of main_arg3 (by decide) (by decide))).trans (V_main_arg3 m c)⟩)
    (run_main m ρ (fun c => keeps m c (h c)))

end Cert.KernelIdeal.Own

end
-- ==== Proof.PreFacts.lean ====
/- What the precondition says of the arguments, at the exact instance. -/
module

public import proofs.«01_k».proof.Pre_chebyshev
public import Idealize.ShloMosaic.Lib.ReduceAll
public import Idealize.ShloMosaic.Lib.ValueIdx
public import Idealize.ShloMosaic.Lib.ValueLayout
public import Idealize.ShloMosaic.Lib.IdealHost
public import Idealize.ShloMosaic.Lib.StackMember
public import Idealize.ShloMosaic.Lib.StableHlo.Predicate
public import Idealize.ShloMosaic.Lib.Pipeline.ValueKit

@[expose] public section

set_option maxRecDepth 16384

noncomputable section

namespace Cert.Pre_chebyshev.Own

open Cert.Pre_chebyshev
open Idealize.ShloMosaic hiding ix0 ix1 ix2 ix3
open Idealize.ShloMosaic.ValueIdx

variable [Facts]
open Facts

/-- The literals of the predicate. -/
theorem lit_inf : Ideal.ofBits .f32 0x7F800000#32 = ⊤ := by simp [Ideal.ofBits, Ideal.ieee]
theorem lit_zero : Ideal.ofBits .f32 0x00000000#32 = 0 := by simp [Ideal.ofBits, Ideal.ieee]
theorem lit_one : Ideal.ofBits .f32 0x3F800000#32 = 1 := by simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num

/-- The identity matrix, as extended reals. -/
def eye (i j : Fin 4096) : EReal := if i = j then 1 else 0

/-- A value whose absolute value is below infinity is a real. -/
theorem real_of_abs_lt (x : EReal) (h : Ideal.cmp .olt (max x (-x)) ⊤ = 1#1) : x = ((x.toReal : ℝ) : EReal) := by
  have h' : max x (-x) < ⊤ := by
    simpa [Ideal.cmp, StableHlo.Predicate.ofBool_eq_one_iff] using h
  refine (EReal.coe_toReal ?_ ?_).symm
  · rintro rfl; simp at h'
  · rintro rfl; simp at h'

/-- Two values compared equal are equal. -/
theorem eq_of_cmp (x y : EReal) (h : Ideal.cmp .oeq x y = 1#1) : x = y := by
  simpa [Ideal.cmp, StableHlo.Predicate.ofBool_eq_one_iff] using h

/-- A member of the supports at an index. -/
theorem member_apply (k : ℕ) (hk : k < 4) (x : S4x4096x4096.Idx → EReal) (hs : S4x4096x4096.Slices ![k, 0, 0] S1x4096x4096)
    (hc : S1x4096x4096.ShapeCasts S4096x4096) (i j : Fin 4096) :
    shapeCast S4096x4096 (extractStridedSlice S1x4096x4096 ![k, 0, 0] x hs) hc (ix2 i j) = x (ix3 ⟨k, hk⟩ i j) := by
  rw [shapeCast_1ab_ab_apply]
  refine extractStridedSlice_apply _ _ _ _ _ ?_
  intro a
  match a with
  | ⟨0, _⟩ => rfl
  | ⟨1, _⟩ => exact (Nat.zero_add _).symm
  | ⟨2, _⟩ => exact (Nat.zero_add _).symm

/-- The printed identity matrix at an index. -/
theorem eye_apply (i j : Fin 4096) :
    fn_where (F := Ideal) (cmpi .eq (iotaInDim S4096x4096 32 0) (iotaInDim S4096x4096 32 1)) (constant S_ .f32 0x3F800000#32)
      (constant S_ .f32 0x00000000#32) (ix2 i j) = eye i j := by
  unfold fn_where
  simp only [select_apply]
  unfold eye Scalar.select
  have e : (cmpi .eq (iotaInDim S4096x4096 32 0) (iotaInDim S4096x4096 32 1) (ix2 i j) = 1) ↔ i = j := by
    show IntOp.cmpi .eq (BitVec.ofNat 32 i.val) (BitVec.ofNat 32 j.val) = 1#1 ↔ _
    rw [StableHlo.Predicate.cmpi_eq_iff]
    constructor
    · intro h
      have h' := congrArg BitVec.toNat h
      simp only [BitVec.toNat_ofNat] at h'
      exact Fin.ext (by have := i.isLt; have := j.isLt; omega)
    · rintro rfl; rfl
  have b1 : ∀ (b : BitVec 32), broadcastInDim (α := EReal) S4096x4096 ![] bcast_S_S4096x4096 (constant (F := Ideal) S_ .f32 b) (ix2 i j) = Ideal.ofBits .f32 b :=
    fun b => broadcastInDim_scalar_apply (T := S4096x4096) bcast_S_S4096x4096 (constant (F := Ideal) S_ .f32 b) (ix2 i j)
  by_cases h : i = j
  · rw [if_pos (e.mpr h), if_pos h]; exact (b1 _).trans lit_one
  · rw [if_neg (mt e.mp h), if_neg h]; exact (b1 _).trans lit_zero

variable (x0 : S4096x128.Idx → EReal) (x1 : S4x4096x4096.Idx → EReal) (x2 : S4x128x4096.Idx → EReal) (x3 : S4096.Idx → EReal)

/-- What the precondition says. -/
structure Says : Prop where
  x : ∀ i, x0 i = (((x0 i).toReal : ℝ) : EReal)
  s : ∀ i j, x1 (ix3 1 i j) = (((x1 (ix3 1 i j)).toReal : ℝ) : EReal)
  k : ∀ i, x2 i = (((x2 i).toReal : ℝ) : EReal)
  symm : ∀ i j, x1 (ix3 1 i j) = x1 (ix3 1 j i)
  s0 : ∀ i j, x1 (ix3 0 i j) = eye i j
  s2 : ∀ i j, x1 (ix3 2 i j) = ((2 : ℝ) : EReal) * ∑ k : Fin 4096, x1 (ix3 1 i k) * x1 (ix3 1 k j) - eye i j
  s3 : ∀ i j, x1 (ix3 3 i j) = ((2 : ℝ) : EReal) * ∑ k : Fin 4096, x1 (ix3 1 i k) * x1 (ix3 2 k j) - x1 (ix3 1 i j)

/-- The printed product at an index. -/
theorem dot_apply (A B : S4096x4096.Idx → EReal) (i j : Fin 4096) :
    Host.dotGeneral (F := Ideal) (φ₁ := .f32) (φ₂ := .f32) dot_S4096x4096_S4096x4096_S4096x4096_1_0_0_1_n_n none A B (ix2 i j)
      = ∑ k : Fin 4096, A (ix2 i k) * B (ix2 k j) :=
  StackMember.dotGeneral_plain_apply (m := 4096) (n := 4096) (k := 4096) none A B i j

/-- Both of two conjoined bits are set. -/
theorem both {a b : IVec S_ 1} (h : andi a b ix0 = 1#1) : a ix0 = 1#1 ∧ b ix0 = 1#1 := by
  have h' : (a ix0) &&& (b ix0) = 1#1 := h
  revert h'
  generalize a ix0 = p; generalize b ix0 = q
  revert p q; decide

/-- The precondition's printed function answering one says it. -/
theorem says_of_fn (h : fn (F := Ideal) x0 x1 x2 x3 = fun _ => 1#1) : Says x0 x1 x2 := by
  have h0 := congrFun h ix0
  unfold fn fn_part1 fn_part2 at h0
  obtain ⟨h0, r3⟩ := both h0
  obtain ⟨h0, r2⟩ := both h0
  obtain ⟨h0, r0⟩ := both h0
  obtain ⟨h0, rs⟩ := both h0
  obtain ⟨h0, rk⟩ := both h0
  obtain ⟨rx, r1⟩ := both h0
  have : Subsingleton S_.Idx := ⟨fun a b => funext fun i => i.elim0⟩
  have e0 := fun i => Host.reduce_andi_all _ _ _ _ _ r0 i
  have e1 := fun i => Host.reduce_andi_all _ _ _ _ _ r1 i
  have e2 := fun i => Host.reduce_andi_all _ _ _ _ _ r2 i
  have e3 := fun i => Host.reduce_andi_all _ _ _ _ _ r3 i
  have es := fun i => Host.reduce_andi_all _ _ _ _ _ rs i
  have ex := fun i => Host.reduce_andi_all _ _ _ _ _ rx i
  have ek := fun i => Host.reduce_andi_all _ _ _ _ _ rk i
  refine ⟨?_, ?_, ?_, ?_, ?_, ?_, ?_⟩
  · intro i
    refine real_of_abs_lt _ ?_
    rw [← lit_inf]; exact ex i
  · intro i j
    refine real_of_abs_lt _ ?_
    have em := member_apply 1 (by omega) x1 slices_S4x4096x4096_S1x4096x4096_1_0_0 shapeCasts_S1x4096x4096_S4096x4096 i j
    refine Eq.trans ?_ (e1 (ix2 i j))
    exact congrArg₂ (Ideal.cmp .olt) (congrArg (fun z : EReal => max z (-z)) em.symm) lit_inf.symm
  · intro i
    refine real_of_abs_lt _ ?_
    rw [← lit_inf]; exact ek i
  · intro i j
    have e := eq_of_cmp _ _ (es (ix2 i j))
    rw [member_apply 1 (by omega)] at e
    refine e.trans ?_
    refine (transpose_apply _ _ _ _ (ix2 j i) ?_).trans (member_apply 1 (by omega) _ _ _ _ _)
    intro b
    match b with
    | ⟨0, _⟩ => rfl
    | ⟨1, _⟩ => rfl
  · intro i j
    have e := eq_of_cmp _ _ (e0 (ix2 i j))
    rw [member_apply 0 (by omega)] at e
    exact e.trans (eye_apply i j)
  · intro i j
    have e := eq_of_cmp _ _ (e2 (ix2 i j))
    rw [member_apply 2 (by omega)] at e
    refine e.trans ?_
    refine congrArg₂ (· - ·) (congrArg₂ (· * ·) lit_two ((dot_apply _ _ i j).trans (Finset.sum_congr rfl fun k _ => ?_))) (eye_apply i j)
    rw [member_apply 1 (by omega), member_apply 1 (by omega)]; rfl
  · intro i j
    have e := eq_of_cmp _ _ (e3 (ix2 i j))
    rw [member_apply 3 (by omega)] at e
    refine e.trans ?_
    refine congrArg₂ (· - ·) (congrArg₂ (· * ·) lit_two ((dot_apply _ _ i j).trans (Finset.sum_congr rfl fun k _ => ?_))) (member_apply 1 (by omega) _ _ _ _ _)
    rw [member_apply 1 (by omega), member_apply 2 (by omega)]; rfl

end Cert.Pre_chebyshev.Own

end
-- ==== Proof.ReferenceValue.lean ====
/- The reference's result at an index, and its run. -/
module

public import proofs.«01_k».proof.Proof.Gen.ReferenceIdeal.Read
public import Idealize.ShloMosaic.Lib.ValueIdx
public import Idealize.ShloMosaic.Lib.Pipeline.ValueKit

@[expose] public section

set_option maxRecDepth 16384

noncomputable section

namespace Cert.ReferenceIdeal.Own

open Cert.ReferenceIdeal Cert.ReferenceIdeal.Gen Cert.ReferenceIdeal.Read
open Idealize.ShloMosaic hiding ix0 ix1 ix2 ix3
open Idealize.ShloMosaic.TcCoe Idealize.ShloMosaic.ValueIdx
open Idealize.SL.Sem Idealize.ShloMosaic.StableHlo

variable (x0 : S4096x128.Idx → EReal) (x1 : S4x4096x4096.Idx → EReal) (x2 : S4x128x4096.Idx → EReal) (x3 : S4096.Idx → EReal)

/-- The reference's result: the sum over the four supports of the support times the transformed features, plus the bias. -/
theorem result_apply (l i : Fin 4096) :
    val_main_v7 (F := Ideal) x0 x1 x2 x3 (ix2 l i)
      = (∑ k : Fin 4, ∑ j : Fin 4096, x1 (ix3 k i j) * ∑ r : Fin 128, x2 (ix3 k r j) * x0 (ix2 l r)) + x3 (ix1 i) := by
  rw [val_main_v7_apply, val_main_v4_apply, val_main_v6_apply, val_main_v5_apply, val_main_cst_apply]
  refine congrArg₂ (· + ·) ?_ (congrArg x3 (funext fun a => match a with | ⟨0, _⟩ => rfl))
  rw [show (FloatOps.ofBits (F := Ideal) .f32 0x00000000#32) = (0 : EReal) from by
    show Ideal.ofBits .f32 0x00000000#32 = 0
    simp [Ideal.ofBits, Ideal.ieee], zero_add]
  refine Finset.sum_congr rfl fun k _ => ?_
  rw [val_main_v3_apply, val_main_v2_apply]
  refine Finset.sum_congr rfl fun j _ => ?_
  rw [val_main_v1_apply, val_main_v0_apply]
  refine congrArg₂ (· * ·) (congrArg x1 (funext fun a => match a with | ⟨0, _⟩ => rfl | ⟨1, _⟩ => rfl | ⟨2, _⟩ => rfl)) ?_
  refine Finset.sum_congr rfl fun r _ => ?_
  exact congrArg₂ (· * ·) (congrArg x2 (funext fun a => match a with | ⟨0, _⟩ => rfl | ⟨1, _⟩ => rfl | ⟨2, _⟩ => rfl))
    (congrArg x0 (funext fun a => match a with | ⟨0, _⟩ => rfl | ⟨1, _⟩ => rfl))

variable (m : (ℓ : Loc nD τ sig) → Buf (Elt Ideal) ℓ) (ρ : Dev nD → PrngReg)

/-- The reference ends with its arguments unchanged and every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2, Idealize.ShloMosaic.sem_eq_zero_of_no_sems (by decide) r.2⟩)
    (Cert.ReferenceIdeal.Value.run (F := Ideal) m ρ)

end Cert.ReferenceIdeal.Own

end
-- ==== Proof.Algebra.lean ====
/- The identity of real matrices the kernel rests on. -/
module

public import Mathlib.Data.Matrix.Mul
public import Mathlib.Data.Real.Basic
public import Mathlib.Algebra.BigOperators.Fin
public import Mathlib.LinearAlgebra.Matrix.Symmetric
public import Mathlib.Tactic.Module
public import Mathlib.Tactic.Ring

@[expose] public section

noncomputable section

namespace Cert.Own

open Matrix

variable {D N M : Type} [Fintype D] [Fintype N] [DecidableEq N]

/-- Horner's rule on the recurrence: for a symmetric `S`, with `C = 2(K₃S + K₂/2)`, the sum of `X Kₖ` times the `k`-th
    Chebyshev matrix of `S` is `X ((K₁ − K₃) S + K₀ − C + 2 (C S) S)`. -/
theorem chebyshev_matrix (K0 K1 K2 K3 : Matrix D N ℝ) (S T2 T3 : Matrix N N ℝ) (X : Matrix M D ℝ) (hS : Sᵀ = S)
    (h2 : T2 = (2 : ℝ) • (S * S) - 1) (h3 : T3 = (2 : ℝ) • (S * T2) - S) :
    (X * K0) * (1 : Matrix N N ℝ)ᵀ + (X * K1) * Sᵀ + (X * K2) * T2ᵀ + (X * K3) * T3ᵀ
      = X * (((K1 - K3) * S + K0 - (2 : ℝ) • (K3 * S + (1 / 2 : ℝ) • K2))
          + (2 : ℝ) • (((2 : ℝ) • (K3 * S + (1 / 2 : ℝ) • K2) * S) * S)) := by
  subst h2; subst h3
  simp only [transpose_sub, transpose_smul, transpose_mul, transpose_one, hS, Matrix.mul_add, Matrix.mul_sub, Matrix.add_mul,
    Matrix.sub_mul, Matrix.mul_smul, Matrix.smul_mul, Matrix.mul_assoc, Matrix.mul_one, Matrix.one_mul, smul_add, smul_sub, smul_smul]
  module

/-- The same, entry by entry. -/
theorem chebyshev_entry (K : Fin 4 → D → N → ℝ) (S : N → N → ℝ) (T : Fin 4 → N → N → ℝ) (X : M → D → ℝ)
    (hS : ∀ i j, S i j = S j i) (h0 : ∀ i j, T 0 i j = if i = j then 1 else 0) (h1 : ∀ i j, T 1 i j = S i j)
    (h2 : ∀ i j, T 2 i j = 2 * ∑ k, S i k * S k j - if i = j then 1 else 0)
    (h3 : ∀ i j, T 3 i j = 2 * ∑ k, S i k * T 2 k j - S i j) (n : M) (q : N) :
    ∑ k, ∑ j, T k q j * ∑ r, K k r j * X n r
      = ∑ r, X n r * ((∑ j, (K 1 r j - K 3 r j) * S j q + K 0 r q - 2 * (∑ j, K 3 r j * S j q + 1 / 2 * K 2 r q))
          + 2 * ∑ l, (∑ j, (2 * (∑ i, K 3 r i * S i j + 1 / 2 * K 2 r j)) * S j l) * S l q) := by
  have e := congrFun (congrFun (chebyshev_matrix (Matrix.of (K 0)) (Matrix.of (K 1)) (Matrix.of (K 2)) (Matrix.of (K 3)) (Matrix.of S)
    (Matrix.of (T 2)) (Matrix.of (T 3)) (Matrix.of X) (by ext i j; exact hS j i)
    (by ext i j; simp [Matrix.mul_apply, Matrix.one_apply, h2])
    (by ext i j; simp [Matrix.mul_apply, h3 i j])) n) q
  simp only [Matrix.add_apply, Matrix.mul_apply, Matrix.transpose_apply, Matrix.sub_apply, Matrix.smul_apply, Matrix.of_apply,
    Matrix.one_apply, smul_eq_mul] at e
  refine Eq.trans ?_ e
  rw [Fin.sum_univ_four]
  have c : ∀ (k : Fin 4) (j : N), ∑ r, K k r j * X n r = ∑ r, X n r * K k r j := fun k j =>
    Finset.sum_congr rfl fun r _ => mul_comm _ _
  refine congrArg₂ (· + ·) (congrArg₂ (· + ·) (congrArg₂ (· + ·) ?_ ?_) ?_) ?_ <;>
    refine Finset.sum_congr rfl fun j _ => ?_ <;> rw [c, mul_comm]
  · rw [h0]
  · rw [h1]

end Cert.Own

end
-- ==== Proof.Joined.lean ====
/- Under the precondition the kernel's result is the reference's. -/
module

public import proofs.«01_k».proof.Proof.KernelValue
public import proofs.«01_k».proof.Proof.PreFacts
public import proofs.«01_k».proof.Proof.ReferenceValue
public import proofs.«01_k».proof.Proof.Algebra

@[expose] public section

set_option maxRecDepth 16384

noncomputable section

namespace Cert.Own

open Cert.KernelIdeal Cert.KernelIdeal.Gen Cert.KernelIdeal.Own
open Idealize.ShloMosaic hiding ix0 ix1 ix2 ix3
open Idealize.ShloMosaic.TcCoe Idealize.ShloMosaic.ValueIdx

variable [Cert.Pre_chebyshev.Facts]
variable (m : (ℓ : Loc nD τ sig) → Buf (Elt Ideal) ℓ) (c : Dev nD)
  (h : Cert.Pre_chebyshev.Own.Says (argX m c) (argS m c) (argK m c))

include h in
/-- The precondition makes the arguments that enter the arithmetic finite. -/
theorem finite_of_says : Finite m c where
  x n r := h.x _
  s j q := h.s _ _
  k k r j := h.k _

/-- The real numbers the four supports hold. -/
def tR (k : Fin 4) (i j : Fin 4096) : ℝ := (argS m c (ix3 k i j)).toReal

/-- The identity matrix's entries are reals. -/
theorem eye_coe (i j : Fin 4096) : Cert.Pre_chebyshev.Own.eye i j = (((if i = j then 1 else 0 : ℝ)) : EReal) := by
  unfold Cert.Pre_chebyshev.Own.eye
  split <;> simp

include h in
/-- The first support is the identity. -/
theorem tR_zero (i j : Fin 4096) : argS m c (ix3 0 i j) = (((if i = j then 1 else 0 : ℝ)) : EReal) :=
  (h.s0 i j).trans (eye_coe i j)

include h in
/-- The third support is the second Chebyshev polynomial of the second. -/
theorem tR_two (i j : Fin 4096) :
    argS m c (ix3 2 i j) = (((2 * ∑ k, sR m c i k * sR m c k j - if i = j then 1 else 0 : ℝ)) : EReal) := by
  refine (h.s2 i j).trans ?_
  rw [eye_coe, EReal.coe_sub, EReal.coe_mul, ← coe_sum]
  refine congrArg (fun z => ((2 : ℝ) : EReal) * z - _) (Finset.sum_congr rfl fun k _ => ?_)
  rw [EReal.coe_mul, h.s i k, h.s k j]; rfl

include h in
/-- The fourth support is the third Chebyshev polynomial of the second. -/
theorem tR_three (i j : Fin 4096) :
    argS m c (ix3 3 i j) = (((2 * ∑ k, sR m c i k * tR m c 2 k j - sR m c i j : ℝ)) : EReal) := by
  refine (h.s3 i j).trans ?_
  rw [EReal.coe_sub, EReal.coe_mul, ← coe_sum]
  refine congrArg₂ (fun z w : EReal => ((2 : ℝ) : EReal) * z - w) (Finset.sum_congr rfl fun k _ => ?_) (h.s i j)
  rw [EReal.coe_mul]
  refine congrArg₂ (· * ·) (h.s i k) ?_
  unfold tR
  rw [tR_two m c h k j]; rfl

include h in
/-- Every support is finite. -/
theorem tR_coe (k : Fin 4) (i j : Fin 4096) : argS m c (ix3 k i j) = ((tR m c k i j : ℝ) : EReal) := by
  unfold tR
  match k with
  | ⟨0, _⟩ => exact (congrArg (fun z : EReal => z = ((z.toReal : ℝ) : EReal)) (tR_zero m c h i j)).mpr rfl
  | ⟨1, _⟩ => exact h.s i j
  | ⟨2, _⟩ => exact (congrArg (fun z : EReal => z = ((z.toReal : ℝ) : EReal)) (tR_two m c h i j)).mpr rfl
  | ⟨3, _⟩ => exact (congrArg (fun z : EReal => z = ((z.toReal : ℝ) : EReal)) (tR_three m c h i j)).mpr rfl

include h in
/-- The kernel's result and the reference's are one array. -/
theorem result_eq : outM m c = Cert.ReferenceIdeal.Read.val_main_v7 (F := Ideal) (argX m c) (argS m c) (argK m c) (argB m c) := by
  funext y
  obtain ⟨n, q, rfl⟩ : ∃ (n q : Fin 4096), y = ix2 n q := ⟨y 0, y 1, funext fun a => match a with | ⟨0, _⟩ => rfl | ⟨1, _⟩ => rfl⟩
  refine Eq.trans ?_ (Cert.ReferenceIdeal.Own.result_apply (argX m c) (argS m c) (argK m c) (argB m c) n q).symm
  refine congrArg (· + argB m c (ix1 q)) ?_
  have e : ∀ (k : Fin 4) (j : Fin 4096), argS m c (ix3 k q j) * ∑ r : Fin 128, argK m c (ix3 k r j) * argX m c (ix2 n r)
      = ((tR m c k q j * ∑ r, kR m c k r j * xR m c n r : ℝ) : EReal) := by
    intro k j
    rw [EReal.coe_mul, ← coe_sum, ← tR_coe m c h]
    refine congrArg _ (Finset.sum_congr rfl fun r _ => ?_)
    rw [EReal.coe_mul]
    exact congrArg₂ (· * ·) (h.k _) (h.x _)
  rw [Finset.sum_congr rfl fun k _ => (Finset.sum_congr rfl fun j _ => e k j).trans (coe_sum _ _), coe_sum]
  refine congrArg (fun z : ℝ => (z : EReal)) ?_
  refine (chebyshev_entry (kR m c) (sR m c) (tR m c) (xR m c) ?_ ?_ ?_ ?_ ?_ n q).symm
  · intro i j; exact congrArg EReal.toReal (h.symm i j)
  · intro i j; exact congrArg EReal.toReal (tR_zero m c h i j)
  · intro i j; rfl
  · intro i j; exact congrArg EReal.toReal (tR_two m c h i j)
  · intro i j; exact congrArg EReal.toReal (tR_three m c h i j)

end Cert.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_chebyshev
public import proofs.«01_k».proof.Proof.FrameKernel
public import proofs.«01_k».proof.Proof.FrameKernelIdeal
public import proofs.«01_k».proof.Proof.Joined
public import Idealize.ShloMosaic.Adequacy
public import Idealize.ShloMosaic.Init

@[expose] public section

noncomputable section

namespace Cert.Proof

open Idealize.ShloMosaic Idealize.SL.Sem Cert.Kernel

/-- The kernel over the extended reals and the reference end with the same result on every device. -/
theorem equal_results :
    Cert.algebraic_KernelIdeal_ReferenceIdeal_pre_chebyshev (hKernelIdeal := Cert.KernelIdeal.Gen.facts)
      (hReferenceIdeal := Cert.ReferenceIdeal.Gen.facts) (hPre_chebyshev := Cert.Pre_chebyshev.Gen.facts) := by
  intro m g m' g' hpre harg
  have hs := fun c => Cert.Pre_chebyshev.Own.says_of_fn _ _ _ _ (hpre c)
  refine ⟨fun c => Cert.KernelIdeal.Own.outM m c, Cert.KernelIdeal.Own.run_value m g (fun c => Cert.Own.finite_of_says m c (hs c)), ?_⟩
  refine (θ_run _ _ _).mono (fun r h c => ⟨(h c).1.trans ?_, (h c).2⟩) (Cert.ReferenceIdeal.Value.run (F := Ideal) m' g')
  refine (Cert.ReferenceIdeal.Read.val_main_v7_eq (F := Ideal) _ _ _ _).trans ?_
  obtain ⟨e0, e1, e2, e3⟩ := harg c
  rw [e0, e1, e2, e3]
  exact (Cert.Own.result_eq m c (hs c)).symm

/-- Everything the certificate claims: the frames, that the ideal program is the kernel's, and equal results. -/
theorem claim : Cert.Claim := ⟨Cert.Kernel.Gen.facts, Cert.KernelIdeal.Gen.facts, Cert.ReferenceIdeal.Gen.facts, Cert.Pre_chebyshev.Gen.facts,
  fun m g _ => Cert.Kernel.Own.Weak.frame m g,
  fun m g _ => Cert.KernelIdeal.Own.Weak.frame m g,
  fun m g _ => Cert.KernelIdeal.Own.Weak.frame m g,
  fun m g _ => Cert.ReferenceIdeal.Own.frame m g,
  fun m g _ => Cert.ReferenceIdeal.Own.frame m g,
  trivial,
  equal_results⟩

end Cert.Proof

end
